-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x256x1024 : Shape := ⟨3, ![16, 256, 1024]⟩
abbrev S2x1024x1024 : Shape := ⟨3, ![2, 1024, 1024]⟩
abbrev S16x256x512 : Shape := ⟨3, ![16, 256, 512]⟩
abbrev S2x1024x512 : Shape := ⟨3, ![2, 1024, 512]⟩
abbrev S8x4096 : Shape := ⟨2, ![8, 4096]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S4096x1024 : Shape := ⟨2, ![4096, 1024]⟩
abbrev S2048x1024 : Shape := ⟨2, ![2048, 1024]⟩
abbrev S4096x512 : Shape := ⟨2, ![4096, 512]⟩
abbrev S2048x512 : Shape := ⟨2, ![2048, 512]⟩
abbrev S1024x1024 : Shape := ⟨2, ![1024, 1024]⟩
abbrev S1024x4096 : Shape := ⟨2, ![1024, 4096]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩

abbrev nBuf : Space → Nat
  | .hbm => 29
  | .vmem => 22
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S16x256x512, .bf16⟩
  | .hbm, ⟨3, _⟩ => ⟨S2x1024x512, .bf16⟩
  | .hbm, ⟨4, _⟩ => ⟨S16x256x512, .bf16⟩
  | .hbm, ⟨5, _⟩ => ⟨S2x1024x512, .bf16⟩
  | .hbm, ⟨6, _⟩ => ⟨S8x4096, .f32⟩
  | .hbm, ⟨7, _⟩ => ⟨S1x1024, .f32⟩
  | .hbm, ⟨8, _⟩ => ⟨S1024, .f32⟩
  | .hbm, ⟨9, _⟩ => ⟨S1x1024x1024, .f32⟩
  | .hbm, ⟨10, _⟩ => ⟨S1x1024x4096, .f32⟩
  | .hbm, ⟨11, _⟩ => ⟨S1x4096x1024, .f32⟩
  | .hbm, ⟨12, _⟩ => ⟨S4096x1024, .f32⟩
  | .hbm, ⟨13, _⟩ => ⟨S2048x1024, .f32⟩
  | .hbm, ⟨14, _⟩ => ⟨S4096x512, .bf16⟩
  | .hbm, ⟨15, _⟩ => ⟨S2048x512, .bf16⟩
  | .hbm, ⟨16, _⟩ => ⟨S4096x512, .bf16⟩
  | .hbm, ⟨17, _⟩ => ⟨S2048x512, .bf16⟩
  | .hbm, ⟨18, _⟩ => ⟨S1024, .f32⟩
  | .hbm, ⟨19, _⟩ => ⟨S1024x1024, .f32⟩
  | .hbm, ⟨20, _⟩ => ⟨S1024x1024, .bf16⟩
  | .hbm, ⟨21, _⟩ => ⟨S1024x4096, .f32⟩
  | .hbm, ⟨22, _⟩ => ⟨S1024x4096, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x4096, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x4096, .bf16⟩
  | .local _ .vmem, ⟨17, _⟩ => ⟨S4096x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v22 : BitVec 32 := Scalar.extui v0
  let c0_i32_8 : BitVec 32 := 0#32
  let v23 : BitVec 1 := Scalar.cmpi .ne v22 c0_i32_8
  v23

def k0_off1 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v40 : Index := Scalar.indexCast v21
  let c0_19 : Index := 0#32
  ![v40.toNat, 0]
def k0_off2 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v59 : Index := Scalar.indexCast v21
  let c2048 : Index := 2048#32
  ![v59.toNat, 2048]
def k0_off3 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v65 : Index := Scalar.indexCast v21
  let c1024 : Index := 1024#32
  ![v65.toNat, 1024]
def k0_off4 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v75 : Index := Scalar.indexCast v21
  let c3072 : Index := 3072#32
  ![v75.toNat, 3072]
def k0_cond2 (i : grid0.Coords) : BitVec 1 :=
  let arg0 : BitVec 32 := BitVec.ofNat 32 (i 0).val
  let c8_i32 : BitVec 32 := 8#32
  let v0 : BitVec 1 := Scalar.cmpi .slt arg0 c8_i32
  let v_true : BitVec 1 := 1#1
  let v24 : BitVec 1 := Scalar.xori v0 v_true
  let v25 : BitVec 32 := Scalar.extui v24
  let c0_i32_9 : BitVec 32 := 0#32
  let v26 : BitVec 1 := Scalar.cmpi .ne v25 c0_i32_9
  v26

def k0_off5 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v40 : Index := Scalar.indexCast v21
  let c0_19 : Index := 0#32
  ![v40.toNat, 0]
def k0_off6 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v59 : Index := Scalar.indexCast v21
  let c2048 : Index := 2048#32
  ![v59.toNat, 2048]
def k0_off7 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v65 : Index := Scalar.indexCast v21
  let c1024 : Index := 1024#32
  ![v65.toNat, 1024]
def k0_off8 (i : grid0.Coords) : Fin 2 → Nat :=
  let arg0 : BitVec 32 := BitVec.ofNat 32 (i 0).val
  let c8_i32 : BitVec 32 := 8#32
  let v0 : BitVec 1 := Scalar.cmpi .slt arg0 c8_i32
  let c0_i32_7 : BitVec 32 := 0#32
  let c1_i32_6 : BitVec 32 := 1#32
  let c8_i32_0 : BitVec 32 := 8#32
  let v1 : BitVec 32 := Scalar.subi arg0 c8_i32_0
  let c0_i32 : BitVec 32 := 0#32
  let v2 : BitVec 32 := Scalar.maxsi v1 c0_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let v3 : BitVec 32 := Scalar.divsi v2 c2_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v0 c0_i32_7 v20
  let v75 : Index := Scalar.indexCast v21
  let c3072 : Index := 3072#32
  ![v75.toNat, 3072]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16x256x1024 : Shape := ⟨3, ![16, 256, 1024]⟩
abbrev S2x1024x1024 : Shape := ⟨3, ![2, 1024, 1024]⟩
abbrev S16x256x512 : Shape := ⟨3, ![16, 256, 512]⟩
abbrev S2x1024x512 : Shape := ⟨3, ![2, 1024, 512]⟩
abbrev S8x4096 : Shape := ⟨2, ![8, 4096]⟩
abbrev S1x1024 : Shape := ⟨2, ![1, 1024]⟩
abbrev S1024 : Shape := ⟨1, ![1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S4096x1024 : Shape := ⟨2, ![4096, 1024]⟩
abbrev S1x4096 : Shape := ⟨2, ![1, 4096]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩
abbrev S2x4096 : Shape := ⟨2, ![2, 4096]⟩
abbrev S2x1024 : Shape := ⟨2, ![2, 1024]⟩
abbrev S2x1x1024 : Shape := ⟨3, ![2, 1, 1024]⟩
abbrev S2x1024x1 : Shape := ⟨3, ![2, 1024, 1]⟩
abbrev S2x1024x4096 : Shape := ⟨3, ![2, 1024, 4096]⟩
abbrev S2048x1024 : Shape := ⟨2, ![2048, 1024]⟩

abbrev nBuf : Space → Nat
  | .hbm => 144
  | .vmem => 0
  | .smem => 0
  | _ => 0

abbrev hbmTy0_0 (i : Nat) : BufTy := match i % 128 with
  | 0 => ⟨S16x256x1024, .f32⟩
  | 1 => ⟨S2x1024x1024, .f32⟩
  | 2 => ⟨S16x256x512, .bf16⟩
  | 3 => ⟨S2x1024x512, .bf16⟩
  | 4 => ⟨S16x256x512, .bf16⟩
  | 5 => ⟨S2x1024x512, .bf16⟩
  | 6 => ⟨S8x4096, .f32⟩
  | 7 => ⟨S1x1024, .f32⟩
  | 8 => ⟨S1024, .f32⟩
  | 9 => ⟨S1x1024x1024, .f32⟩
  | 10 => ⟨S1x1024x4096, .f32⟩
  | 11 => ⟨S1x4096x1024, .f32⟩
  | 12 => ⟨S1024, .f32⟩
  | 13 => ⟨S1024x1024, .f32⟩
  | 14 => ⟨S1024x4096, .f32⟩
  | 15 => ⟨S4096x1024, .f32⟩
  | 16 => ⟨S1x4096, .f32⟩
  | 17 => ⟨S1x1024, .f32⟩
  | 18 => ⟨S1x1024, .f32⟩
  | 19 => ⟨S1x1024, .f32⟩
  | 20 => ⟨S1x1024, .f32⟩
  | 21 => ⟨S1x1x1024, .f32⟩
  | 22 => ⟨S1x1x1024, .f32⟩
  | 23 => ⟨S1x1x1024, .f32⟩
  | 24 => ⟨S1x1x1024, .f32⟩
  | 25 => ⟨S16x256x1024, .bf16⟩
  | 26 => ⟨S16x256x1024, .f32⟩
  | 27 => ⟨S16x256x1024, .f32⟩
  | 28 => ⟨S16x256x1024, .f32⟩
  | 29 => ⟨S16x256x1024, .f32⟩
  | 30 => ⟨S16x256x1024, .f32⟩
  | 31 => ⟨S16x256x1024, .f32⟩
  | 32 => ⟨S_, .f32⟩
  | 33 => ⟨S16x256, .f32⟩
  | 34 => ⟨S16x256x1, .f32⟩
  | 35 => ⟨S_, .f32⟩
  | 36 => ⟨S16x256x1, .f32⟩
  | 37 => ⟨S16x256x1, .f32⟩
  | 38 => ⟨S_, .f32⟩
  | 39 => ⟨S16x256x1, .f32⟩
  | 40 => ⟨S16x256x1, .f32⟩
  | 41 => ⟨S16x256x1, .f32⟩
  | 42 => ⟨S16x256x1024, .f32⟩
  | 43 => ⟨S16x256x1024, .f32⟩
  | 44 => ⟨S1x1x1024, .f32⟩
  | 45 => ⟨S16x256x1024, .f32⟩
  | 46 => ⟨S16x256x1024, .f32⟩
  | 47 => ⟨S_, .f32⟩
  | 48 => ⟨S1x1x1024, .f32⟩
  | 49 => ⟨S1x1x1024, .f32⟩
  | 50 => ⟨S16x256x1024, .f32⟩
  | 51 => ⟨S16x256x1024, .f32⟩
  | 52 => ⟨S16x256x1024, .f32⟩
  | 53 => ⟨S16x256x1024, .f32⟩
  | 54 => ⟨S16x256x4096, .f32⟩
  | 55 => ⟨S_, .f32⟩
  | 56 => ⟨S16x256x4096, .f32⟩
  | 57 => ⟨S16x256x4096, .f32⟩
  | 58 => ⟨S16x256x4096, .f32⟩
  | 59 => ⟨S16x256x1024, .f32⟩
  | 60 => ⟨S16x256x1024, .f32⟩
  | 61 => ⟨S16x256x1024, .f32⟩
  | 62 => ⟨S16x256x1024, .f32⟩
  | 63 => ⟨S16x256x1024, .f32⟩
  | 64 => ⟨S_, .f32⟩
  | 65 => ⟨S16x256, .f32⟩
  | 66 => ⟨S16x256x1, .f32⟩
  | 67 => ⟨S_, .f32⟩
  | 68 => ⟨S16x256x1, .f32⟩
  | 69 => ⟨S16x256x1, .f32⟩
  | 70 => ⟨S_, .f32⟩
  | 71 => ⟨S16x256x1, .f32⟩
  | 72 => ⟨S16x256x1, .f32⟩
  | 73 => ⟨S16x256x1, .f32⟩
  | 74 => ⟨S16x256x1024, .f32⟩
  | 75 => ⟨S16x256x1024, .f32⟩
  | 76 => ⟨S1x1x1024, .f32⟩
  | 77 => ⟨S16x256x1024, .f32⟩
  | 78 => ⟨S16x256x1024, .f32⟩
  | 79 => ⟨S2x4096, .f32⟩
  | 80 => ⟨S2x1024, .f32⟩
  | 81 => ⟨S2x1024, .f32⟩
  | 82 => ⟨S2x1024, .f32⟩
  | 83 => ⟨S2x1024, .f32⟩
  | 84 => ⟨S2x1x1024, .f32⟩
  | 85 => ⟨S2x1x1024, .f32⟩
  | 86 => ⟨S2x1x1024, .f32⟩
  | 87 => ⟨S2x1x1024, .f32⟩
  | 88 => ⟨S2x1024x1024, .bf16⟩
  | 89 => ⟨S2x1024x1024, .f32⟩
  | 90 => ⟨S2x1024x1024, .f32⟩
  | 91 => ⟨S2x1024x1024, .f32⟩
  | 92 => ⟨S2x1024x1024, .f32⟩
  | 93 => ⟨S2x1024x1024, .f32⟩
  | 94 => ⟨S2x1024x1024, .f32⟩
  | 95 => ⟨S_, .f32⟩
  | 96 => ⟨S2x1024, .f32⟩
  | 97 => ⟨S2x1024x1, .f32⟩
  | 98 => ⟨S_, .f32⟩
  | 99 => ⟨S2x1024x1, .f32⟩
  | 100 => ⟨S2x1024x1, .f32⟩
  | 101 => ⟨S_, .f32⟩
  | 102 => ⟨S2x1024x1, .f32⟩
  | 103 => ⟨S2x1024x1, .f32⟩
  | 104 => ⟨S2x1024x1, .f32⟩
  | 105 => ⟨S2x1024x1024, .f32⟩
  | 106 => ⟨S2x1024x1024, .f32⟩
  | 107 => ⟨S1x1x1024, .f32⟩
  | 108 => ⟨S2x1024x1024, .f32⟩
  | 109 => ⟨S2x1024x1024, .f32⟩
  | 110 => ⟨S_, .f32⟩
  | 111 => ⟨S2x1x1024, .f32⟩
  | 112 => ⟨S2x1x1024, .f32⟩
  | 113 => ⟨S2x1024x1024, .f32⟩
  | 114 => ⟨S2x1024x1024, .f32⟩
  | 115 => ⟨S2x1024x1024, .f32⟩
  | 116 => ⟨S2x1024x1024, .f32⟩
  | 117 => ⟨S2x1024x4096, .f32⟩
  | 118 => ⟨S_, .f32⟩
  | 119 => ⟨S2x1024x4096, .f32⟩
  | 120 => ⟨S2x1024x4096, .f32⟩
  | 121 => ⟨S2x1024x4096, .f32⟩
  | 122 => ⟨S2x1024x1024, .f32⟩
  | 123 => ⟨S2x1024x1024, .f32⟩
  | 124 => ⟨S2x1024x1024, .f32⟩
  | 125 => ⟨S2x1024x1024, .f32⟩
  | 126 => ⟨S2x1024x1024, .f32⟩
  | 127 => ⟨S_, .f32⟩
  | _ => ⟨S16x256x1024, .f32⟩

abbrev hbmTy0_1 (i : Nat) : BufTy := match i % 128 with
  | 0 => ⟨S2x1024, .f32⟩
  | 1 => ⟨S2x1024x1, .f32⟩
  | 2 => ⟨S_, .f32⟩
  | 3 => ⟨S2x1024x1, .f32⟩
  | 4 => ⟨S2x1024x1, .f32⟩
  | 5 => ⟨S_, .f32⟩
  | 6 => ⟨S2x1024x1, .f32⟩
  | 7 => ⟨S2x1024x1, .f32⟩
  | 8 => ⟨S2x1024x1, .f32⟩
  | 9 => ⟨S2x1024x1024, .f32⟩
  | 10 => ⟨S2x1024x1024, .f32⟩
  | 11 => ⟨S1x1x1024, .f32⟩
  | 12 => ⟨S2x1024x1024, .f32⟩
  | 13 => ⟨S2x1024x1024, .f32⟩
  | 14 => ⟨S4096x1024, .f32⟩
  | 15 => ⟨S2048x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_call1_cst : Ref sig .tc := ⟨.hbm, 118, rfl⟩
abbrev main_call1_v0 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_10 : Ref sig .tc := ⟨.hbm, 127, rfl⟩
abbrev main_v100 : Ref sig .tc := ⟨.hbm, 128, rfl⟩
abbrev main_v101 : Ref sig .tc := ⟨.hbm, 129, rfl⟩
abbrev main_cst_11 : Ref sig .tc := ⟨.hbm, 130, rfl⟩
abbrev main_v102 : Ref sig .tc := ⟨.hbm, 131, rfl⟩
abbrev main_v103 : Ref sig .tc := ⟨.hbm, 132, rfl⟩
abbrev main_cst_12 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩

abbrev nD : Nat := 1
abbrev τ : Topo := Topo.v7x

variable {F : FTy → Type} [FloatOps F]
-- ==== Kernel2.lean ====
abbrev S16x256x1024 : Shape := ⟨3, ![16, 256, 1024]⟩
abbrev S2x1024x1024 : Shape := ⟨3, ![2, 1024, 1024]⟩
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x3120 : Shape := ⟨3, ![1, 1024, 3120]⟩
abbrev S4096x1024 : Shape := ⟨2, ![4096, 1024]⟩
abbrev S2048x1024 : Shape := ⟨2, ![2048, 1024]⟩
abbrev S1024x6144 : Shape := ⟨2, ![1024, 6144]⟩
abbrev S6144 : Shape := ⟨1, ![6144]⟩
abbrev S1024x3120 : Shape := ⟨2, ![1024, 3120]⟩
abbrev S3120x1024 : Shape := ⟨2, ![3120, 1024]⟩
abbrev S6144x1152 : Shape := ⟨2, ![6144, 1152]⟩
abbrev S6144x2048 : Shape := ⟨2, ![6144, 2048]⟩
abbrev S1024x2048 : Shape := ⟨2, ![1024, 2048]⟩
abbrev S1x2048 : Shape := ⟨2, ![1, 2048]⟩
abbrev S512x1152 : Shape := ⟨2, ![512, 1152]⟩
abbrev S512x2048 : Shape := ⟨2, ![512, 2048]⟩
abbrev S3200x1024 : Shape := ⟨2, ![3200, 1024]⟩
abbrev S8x2048 : Shape := ⟨2, ![8, 2048]⟩
abbrev S4x512x1024 : Shape := ⟨3, ![4, 512, 1024]⟩
abbrev S4 : Shape := ⟨1, ![4]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S8x1024 : Shape := ⟨2, ![8, 1024]⟩
abbrev S32x1024 : Shape := ⟨2, ![32, 1024]⟩
abbrev S16x1024 : Shape := ⟨2, ![16, 1024]⟩
abbrev S80x1024 : Shape := ⟨2, ![80, 1024]⟩
abbrev S128x1024 : Shape := ⟨2, ![128, 1024]⟩
abbrev S1024x1024 : Shape := ⟨2, ![1024, 1024]⟩
abbrev S512 : Shape := ⟨1, ![512]⟩
abbrev S512x1 : Shape := ⟨2, ![512, 1]⟩
abbrev S1152x1024 : Shape := ⟨2, ![1152, 1024]⟩

abbrev nBuf : Space → Nat
  | .hbm => 20
  | .vmem => 13
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S2x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x3120, .f32⟩
  | .hbm, ⟨8, _⟩ => ⟨S4096x1024, .f32⟩
  | .hbm, ⟨9, _⟩ => ⟨S2048x1024, .f32⟩
  | .hbm, ⟨10, _⟩ => ⟨S1x1024, .f32⟩
  | .hbm, ⟨11, _⟩ => ⟨S1024x6144, .f32⟩
  | .hbm, ⟨12, _⟩ => ⟨S6144, .f32⟩
  | .hbm, ⟨13, _⟩ => ⟨S1x6144, .f32⟩
  | .hbm, ⟨14, _⟩ => ⟨S1024, .f32⟩
  | .hbm, ⟨15, _⟩ => ⟨S1024x3120, .f32⟩
  | .hbm, ⟨16, _⟩ => ⟨S3120x1024, .f32⟩
  | .hbm, ⟨17, _⟩ => ⟨S1x1024, .f32⟩
  | .hbm, ⟨18, _⟩ => ⟨S6144x1152, .f32⟩
  | .hbm, ⟨19, _⟩ => ⟨S6144x2048, .bf16⟩
  | .local _ .vmem, ⟨0, _⟩ => ⟨S1x1024, .f32⟩
  | .local _ .vmem, ⟨1, _⟩ => ⟨S2x1024, .f32⟩
  | .local _ .vmem, ⟨2, _⟩ => ⟨S1024x2048, .f32⟩
  | .local _ .vmem, ⟨3, _⟩ => ⟨S1x2048, .f32⟩
  | .local _ .vmem, ⟨4, _⟩ => ⟨S1x1024, .f32⟩
  | .local _ .vmem, ⟨5, _⟩ => ⟨S3120x1024, .f32⟩
  | .local _ .vmem, ⟨6, _⟩ => ⟨S512x1152, .f32⟩
  | .local _ .vmem, ⟨7, _⟩ => ⟨S512x1152, .f32⟩
  | .local _ .vmem, ⟨8, _⟩ => ⟨S512x2048, .bf16⟩
  | .local _ .vmem, ⟨9, _⟩ => ⟨S512x2048, .bf16⟩
  | .local _ .vmem, ⟨10, _⟩ => ⟨S3200x1024, .bf16⟩
  | .local _ .vmem, ⟨11, _⟩ => ⟨S8x2048, .f32⟩
  | .local _ .vmem, ⟨12, _⟩ => ⟨S4x512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 : BitVec 1 :=
  let c0_i32_36 : BitVec 32 := 0#32
  let c8_i32_37 : BitVec 32 := 8#32
  let v76 : BitVec 1 := Scalar.cmpi .slt c0_i32_36 c8_i32_37
  let v77 : BitVec 32 := Scalar.extui v76
  let c0_i32_39 : BitVec 32 := 0#32
  let v78 : BitVec 1 := Scalar.cmpi .ne v77 c0_i32_39
  v78

def k0_off1 : Fin 1 → Nat :=
  let c0_i32_34 : BitVec 32 := 0#32
  let c4_i32_35 : BitVec 32 := 4#32
  let v75 : BitVec 32 := Scalar.remsi c0_i32_34 c4_i32_35
  ![v75.toNat]
def k0_off2 : Fin 3 → Nat :=
  let c0_i32_34 : BitVec 32 := 0#32
  let c4_i32_35 : BitVec 32 := 4#32
  let v75 : BitVec 32 := Scalar.remsi c0_i32_34 c4_i32_35
  let c0_i32_64 : BitVec 32 := 0#32
  let c0_i32_65 : BitVec 32 := 0#32
  ![v75.toNat, 0, 0]
def k0_off3 : Fin 2 → Nat :=
  let c0_i32_38 : BitVec 32 := 0#32
  let c512_i32 : BitVec 32 := 512#32
  let v96 : BitVec 32 := Scalar.muli c0_i32_38 c512_i32
  let c0_i32_66 : BitVec 32 := 0#32
  ![v96.toNat, 0]
def k0_cond3 : BitVec 1 :=
  let c0_i32_40 : BitVec 32 := 0#32
  let c8_i32_41 : BitVec 32 := 8#32
  let v79 : BitVec 1 := Scalar.cmpi .sge c0_i32_40 c8_i32_41
  let v80 : BitVec 32 := Scalar.extui v79
  let c0_i32_43 : BitVec 32 := 0#32
  let v81 : BitVec 1 := Scalar.cmpi .ne v80 c0_i32_43
  v81

def k0_off4 : Fin 1 → Nat :=
  let c0_i32_34 : BitVec 32 := 0#32
  let c4_i32_35 : BitVec 32 := 4#32
  let v75 : BitVec 32 := Scalar.remsi c0_i32_34 c4_i32_35
  ![v75.toNat]
def k0_off5 : Fin 3 → Nat :=
  let c0_i32_34 : BitVec 32 := 0#32
  let c4_i32_35 : BitVec 32 := 4#32
  let v75 : BitVec 32 := Scalar.remsi c0_i32_34 c4_i32_35
  let c0_i32_65 : BitVec 32 := 0#32
  let c0_i32_66 : BitVec 32 := 0#32
  ![v75.toNat, 0, 0]
def k0_off6 : Fin 2 → Nat :=
  let c0_i32_42 : BitVec 32 := 0#32
  let c8_i32_64 : BitVec 32 := 8#32
  let v96 : BitVec 32 := Scalar.subi c0_i32_42 c8_i32_64
  let c512_i32 : BitVec 32 := 512#32
  let v97 : BitVec 32 := Scalar.muli v96 c512_i32
  let c0_i32_67 : BitVec 32 := 0#32
  ![v97.toNat, 0]
def k0_cond4 : BitVec 1 :=
  let c1_i32_46 : BitVec 32 := 1#32
  let c8_i32_47 : BitVec 32 := 8#32
  let v83 : BitVec 1 := Scalar.cmpi .slt c1_i32_46 c8_i32_47
  let v84 : BitVec 32 := Scalar.extui v83
  let c0_i32_49 : BitVec 32 := 0#32
  let v85 : BitVec 1 := Scalar.cmpi .ne v84 c0_i32_49
  v85

def k0_off7 : Fin 1 → Nat :=
  let c1_i32_44 : BitVec 32 := 1#32
  let c4_i32_45 : BitVec 32 := 4#32
  let v82 : BitVec 32 := Scalar.remsi c1_i32_44 c4_i32_45
  ![v82.toNat]
def k0_off8 : Fin 3 → Nat :=
  let c1_i32_44 : BitVec 32 := 1#32
  let c4_i32_45 : BitVec 32 := 4#32
  let v82 : BitVec 32 := Scalar.remsi c1_i32_44 c4_i32_45
  let c0_i32_64 : BitVec 32 := 0#32
  let c0_i32_65 : BitVec 32 := 0#32
  ![v82.toNat, 0, 0]
def k0_off9 : Fin 2 → Nat :=
  let c1_i32_48 : BitVec 32 := 1#32
  let c512_i32 : BitVec 32 := 512#32
  let v96 : BitVec 32 := Scalar.muli c1_i32_48 c512_i32
  let c0_i32_66 : BitVec 32 := 0#32
  ![v96.toNat, 0]
def k0_cond5 : BitVec 1 :=
  let c1_i32_50 : BitVec 32 := 1#32
  let c8_i32_51 : BitVec 32 := 8#32
  let v86 : BitVec 1 := Scalar.cmpi .sge c1_i32_50 c8_i32_51
  let v87 : BitVec 32 := Scalar.extui v86
  let c0_i32_53 : BitVec 32 := 0#32
  let v88 : BitVec 1 := Scalar.cmpi .ne v87 c0_i32_53
  v88

def k0_off10 : Fin 1 → Nat :=
  let c1_i32_44 : BitVec 32 := 1#32
  let c4_i32_45 : BitVec 32 := 4#32
  let v82 : BitVec 32 := Scalar.remsi c1_i32_44 c4_i32_45
  ![v82.toNat]
def k0_off11 : Fin 3 → Nat :=
  let c1_i32_44 : BitVec 32 := 1#32
  let c4_i32_45 : BitVec 32 := 4#32
  let v82 : BitVec 32 := Scalar.remsi c1_i32_44 c4_i32_45
  let c0_i32_65 : BitVec 32 := 0#32
  let c0_i32_66 : BitVec 32 := 0#32
  ![v82.toNat, 0, 0]
def k0_off12 : Fin 2 → Nat :=
  let c1_i32_52 : BitVec 32 := 1#32
  let c8_i32_64 : BitVec 32 := 8#32
  let v96 : BitVec 32 := Scalar.subi c1_i32_52 c8_i32_64
  let c512_i32 : BitVec 32 := 512#32
  let v97 : BitVec 32 := Scalar.muli v96 c512_i32
  let c0_i32_67 : BitVec 32 := 0#32
  ![v97.toNat, 0]
def k0_cond6 : BitVec 1 :=
  let c2_i32_56 : BitVec 32 := 2#32
  let c8_i32_57 : BitVec 32 := 8#32
  let v90 : BitVec 1 := Scalar.cmpi .slt c2_i32_56 c8_i32_57
  let v91 : BitVec 32 := Scalar.extui v90
  let c0_i32_59 : BitVec 32 := 0#32
  let v92 : BitVec 1 := Scalar.cmpi .ne v91 c0_i32_59
  v92

def k0_off13 : Fin 1 → Nat :=
  let c2_i32_54 : BitVec 32 := 2#32
  let c4_i32_55 : BitVec 32 := 4#32
  let v89 : BitVec 32 := Scalar.remsi c2_i32_54 c4_i32_55
  ![v89.toNat]
def k0_off14 : Fin 3 → Nat :=
  let c2_i32_54 : BitVec 32 := 2#32
  let c4_i32_55 : BitVec 32 := 4#32
  let v89 : BitVec 32 := Scalar.remsi c2_i32_54 c4_i32_55
  let c0_i32_64 : BitVec 32 := 0#32
  let c0_i32_65 : BitVec 32 := 0#32
  ![v89.toNat, 0, 0]
def k0_off15 : Fin 2 → Nat :=
  let c2_i32_58 : BitVec 32 := 2#32
  let c512_i32 : BitVec 32 := 512#32
  let v96 : BitVec 32 := Scalar.muli c2_i32_58 c512_i32
  let c0_i32_66 : BitVec 32 := 0#32
  ![v96.toNat, 0]
def k0_cond7 : BitVec 1 :=
  let c2_i32_60 : BitVec 32 := 2#32
  let c8_i32_61 : BitVec 32 := 8#32
  let v93 : BitVec 1 := Scalar.cmpi .sge c2_i32_60 c8_i32_61
  let v94 : BitVec 32 := Scalar.extui v93
  let c0_i32_63 : BitVec 32 := 0#32
  let v95 : BitVec 1 := Scalar.cmpi .ne v94 c0_i32_63
  v95

def k0_off16 : Fin 1 → Nat :=
  let c2_i32_54 : BitVec 32 := 2#32
  let c4_i32_55 : BitVec 32 := 4#32
  let v89 : BitVec 32 := Scalar.remsi c2_i32_54 c4_i32_55
  ![v89.toNat]
def k0_off17 : Fin 3 → Nat :=
  let c2_i32_54 : BitVec 32 := 2#32
  let c4_i32_55 : BitVec 32 := 4#32
  let v89 : BitVec 32 := Scalar.remsi c2_i32_54 c4_i32_55
  let c0_i32_65 : BitVec 32 := 0#32
  let c0_i32_66 : BitVec 32 := 0#32
  ![v89.toNat, 0, 0]
def k0_off18 : Fin 2 → Nat :=
  let c2_i32_62 : BitVec 32 := 2#32
  let c8_i32_64 : BitVec 32 := 8#32
  let v96 : BitVec 32 := Scalar.subi c2_i32_62 c8_i32_64
  let c512_i32 : BitVec 32 := 512#32
  let v97 : BitVec 32 := Scalar.muli v96 c512_i32
  let c0_i32_67 : BitVec 32 := 0#32
  ![v97.toNat, 0]
def k0_cond8 (i : grid0.Coords) : BitVec 1 :=
  let arg0 : BitVec 32 := BitVec.ofNat 32 (i 0).val
  let c3_i32 : BitVec 32 := 3#32
  let v3 : BitVec 32 := Scalar.addi arg0 c3_i32
  let c12_i32 : BitVec 32 := 12#32
  let v4 : BitVec 1 := Scalar.cmpi .slt v3 c12_i32
  let v5 : BitVec 32 := Scalar.extui v4
  let c0_i32_1 : BitVec 32 := 0#32
  let v6 : BitVec 1 := Scalar.cmpi .ne v5 c0_i32_1
  v6

def k0_cond9 (i : grid0.Coords) : BitVec 1 :=
  let arg0 : BitVec 32 := BitVec.ofNat 32 (i 0).val
  let c3_i32_34 : BitVec 32 := 3#32
  let v75 : BitVec 32 := Scalar.addi arg0 c3_i32_34
  let c8_i32_36 : BitVec 32 := 8#32
  let v77 : BitVec 1 := Scalar.cmpi .slt v75 c8_i32_36
  let v78 : BitVec 32 := Scalar.extui v77
  let c0_i32_37 : BitVec 32 := 0#32
  let v79 : BitVec 1 := Scalar.cmpi .ne v78 c0_i32_37
  v79

def k0_off19 (i : grid0.Coords) : Fin 1 → Nat :=
  let arg0 : BitVec 32 := BitVec.ofNat 32 (i 0).val
  let c3_i32_34 : BitVec 32 := 3#32
  let v75 : BitVec 32 := Scalar.addi arg0 c3_i32_34
  let c4_i32_35 : BitVec 32 := 4#32
  let v76 : BitVec 32 := Scalar.remsi v75 c4_i32_35
  ![v76.toNat]
def k0_off20 (i : grid0.Coords) : Fin 3 → Nat :=
  let arg0 : BitVec 32 := BitVec.ofNat 32 (i 0).val
  let c3_i32_34 : BitVec 32 := 3#32
  let v75 : BitVec 32 := Scalar.addi arg0 c3_i32_34
  let c4_i32_35 : BitVec 32 := 4#32
  let v76 : BitVec 32 := Scalar.remsi v75 c4_i32_35
  let c0_i32_40 : BitVec 32 := 0#32
  let c0_i32_41 : BitVec 32 := 0#32
  ![v76.toNat, 0, 0]
def k0_off21 (i : grid0.Coords) : Fin 2 → Nat :=
  let arg0 : BitVec 32 := BitVec.ofNat 32 (i 0).val
  let c3_i32_34 : BitVec 32 := 3#32
  let v75 : BitVec 32 := Scalar.addi arg0 c3_i32_34
  let c512_i32 : BitVec 32 := 512#32
  let v83 : BitVec 32 := Scalar.muli v75 c512_i32
  let c0_i32_42 : BitVec 32 := 0#32
  ![v83.toNat, 0]
def k0_cond10 (i : grid0.Coords) : BitVec 1 :=
  let arg0 : BitVec 32 := BitVec.ofNat 32 (i 0).val
  let c3_i32_34 : BitVec 32 := 3#32
  let v75 : BitVec 32 := Scalar.addi arg0 c3_i32_34
  let c8_i32_38 : BitVec 32 := 8#32
  let v80 : BitVec 1 := Scalar.cmpi .sge v75 c8_i32_38
  let v81 : BitVec 32 := Scalar.extui v80
  let c0_i32_39 : BitVec 32 := 0#32
  let v82 : BitVec 1 := Scalar.cmpi .ne v81 c0_i32_39
  v82

def k0_off22 (i : grid0.Coords) : Fin 1 → Nat :=
  let arg0 : BitVec 32 := BitVec.ofNat 32 (i 0).val
  let c3_i32_34 : BitVec 32 := 3#32
  let v75 : BitVec 32 := Scalar.addi arg0 c3_i32_34
  let c4_i32_35 : BitVec 32 := 4#32
  let v76 : BitVec 32 := Scalar.remsi v75 c4_i32_35
  ![v76.toNat]
def k0_off23 (i : grid0.Coords) : Fin 3 → Nat :=
  let arg0 : BitVec 32 := BitVec.ofNat 32 (i 0).val
  let c3_i32_34 : BitVec 32 := 3#32
  let v75 : BitVec 32 := Scalar.addi arg0 c3_i32_34
  let c4_i32_35 : BitVec 32 := 4#32
  let v76 : BitVec 32 := Scalar.remsi v75 c4_i32_35
  let c0_i32_41 : BitVec 32 := 0#32
  let c0_i32_42 : BitVec 32 := 0#32
  ![v76.toNat, 0, 0]
def k0_off24 (i : grid0.Coords) : Fin 2 → Nat :=
  let arg0 : BitVec 32 := BitVec.ofNat 32 (i 0).val
  let c3_i32_34 : BitVec 32 := 3#32
  let v75 : BitVec 32 := Scalar.addi arg0 c3_i32_34
  let c8_i32_40 : BitVec 32 := 8#32
  let v83 : BitVec 32 := Scalar.subi v75 c8_i32_40
  let c512_i32 : BitVec 32 := 512#32
  let v84 : BitVec 32 := Scalar.muli v83 c512_i32
  let c0_i32_43 : BitVec 32 := 0#32
  ![v84.toNat, 0]
def k0_cond12 (i : grid0.Coords) : BitVec 1 :=
  let arg0 : BitVec 32 := BitVec.ofNat 32 (i 0).val
  let c8_i32_13 : BitVec 32 := 8#32
  let v33 : BitVec 1 := Scalar.cmpi .slt arg0 c8_i32_13
  let v34 : BitVec 32 := Scalar.extui v33
  let c0_i32_14 : BitVec 32 := 0#32
  let v35 : BitVec 1 := Scalar.cmpi .ne v34 c0_i32_14
  v35

def k0_off25 (i : grid0.Coords) : Fin 1 → Nat :=
  let arg0 : BitVec 32 := BitVec.ofNat 32 (i 0).val
  let c4_i32 : BitVec 32 := 4#32
  let v32 : BitVec 32 := Scalar.remsi arg0 c4_i32
  ![v32.toNat]
def k0_off26 (i : grid0.Coords) : Fin 3 → Nat :=
  let arg0 : BitVec 32 := BitVec.ofNat 32 (i 0).val
  let c4_i32 : BitVec 32 := 4#32
  let v32 : BitVec 32 := Scalar.remsi arg0 c4_i32
  let c0_i32_34 : BitVec 32 := 0#32
  let c0_i32_35 : BitVec 32 := 0#32
  ![v32.toNat, 0, 0]
def k0_off27 (i : grid0.Coords) : Fin 2 → Nat :=
  let arg0 : BitVec 32 := BitVec.ofNat 32 (i 0).val
  let c512_i32 : BitVec 32 := 512#32
  let v75 : BitVec 32 := Scalar.muli arg0 c512_i32
  let c0_i32_36 : BitVec 32 := 0#32
  ![v75.toNat, 0]
def k0_cond13 (i : grid0.Coords) : BitVec 1 :=
  let arg0 : BitVec 32 := BitVec.ofNat 32 (i 0).val
  let c8_i32_15 : BitVec 32 := 8#32
  let v36 : BitVec 1 := Scalar.cmpi .sge arg0 c8_i32_15
  let v37 : BitVec 32 := Scalar.extui v36
  let c0_i32_16 : BitVec 32 := 0#32
  let v38 : BitVec 1 := Scalar.cmpi .ne v37 c0_i32_16
  v38

def k0_off28 (i : grid0.Coords) : Fin 1 → Nat :=
  let arg0 : BitVec 32 := BitVec.ofNat 32 (i 0).val
  let c4_i32 : BitVec 32 := 4#32
  let v32 : BitVec 32 := Scalar.remsi arg0 c4_i32
  ![v32.toNat]
def k0_off29 (i : grid0.Coords) : Fin 3 → Nat :=
  let arg0 : BitVec 32 := BitVec.ofNat 32 (i 0).val
  let c4_i32 : BitVec 32 := 4#32
  let v32 : BitVec 32 := Scalar.remsi arg0 c4_i32
  let c0_i32_35 : BitVec 32 := 0#32
  let c0_i32_36 : BitVec 32 := 0#32
  ![v32.toNat, 0, 0]
def k0_off30 (i : grid0.Coords) : Fin 2 → Nat :=
  let arg0 : BitVec 32 := BitVec.ofNat 32 (i 0).val
  let c8_i32_34 : BitVec 32 := 8#32
  let v75 : BitVec 32 := Scalar.subi arg0 c8_i32_34
  let c512_i32 : BitVec 32 := 512#32
  let v76 : BitVec 32 := Scalar.muli v75 c512_i32
  let c0_i32_37 : BitVec 32 := 0#32
  ![v76.toNat, 0]
def k0_off31 (i : grid0.Coords) : Fin 2 → Nat :=
  let arg0 : BitVec 32 := BitVec.ofNat 32 (i 0).val
  let c8_i32 : BitVec 32 := 8#32
  let v10 : BitVec 1 := Scalar.cmpi .slt arg0 c8_i32
  let c0_i32_12 : BitVec 32 := 0#32
  let c1_i32_11 : BitVec 32 := 1#32
  let c8_i32_4 : BitVec 32 := 8#32
  let v11 : BitVec 32 := Scalar.subi arg0 c8_i32_4
  let c0_i32_5 : BitVec 32 := 0#32
  let v12 : BitVec 32 := Scalar.maxsi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c2_i32 : BitVec 32 := 2#32
  let c0_i32_8 : BitVec 32 := 0#32
  let v19 : BitVec 1 := Scalar.cmpi .sgt c2_i32 c0_i32_8
  let v20 : BitVec 32 := Scalar.extui v19
  let c0_i32_9 : BitVec 32 := 0#32
  let v21 : BitVec 1 := Scalar.cmpi .slt c2_i32 c0_i32_9
  let v22 : BitVec 32 := Scalar.extui v21
  let v23 : BitVec 32 := Scalar.subi v20 v22
  let v24 : BitVec 1 := Scalar.cmpi .ne v18 v23
  let v25 : BitVec 32 := Scalar.remsi v12 c2_i32
  let c0_i32_10 : BitVec 32 := 0#32
  let v26 : BitVec 1 := Scalar.cmpi .ne v25 c0_i32_10
  let v27 : BitVec 1 := Scalar.andi v24 v26
  let v13 : BitVec 32 := Scalar.divsi v12 c2_i32
  let c1_i32 : BitVec 32 := 1#32
  let v28 : BitVec 32 := Scalar.subi v13 c1_i32
  let v29 : BitVec 32 := Scalar.select v27 v28 v13
  let v30 : BitVec 32 := Scalar.addi c1_i32_11 v29
  let v31 : BitVec 32 := Scalar.select v10 c0_i32_12 v30
  let v39 : Index := Scalar.indexCast v31
  let c0 : Index := 0#32
  ![v39.toNat, 0]
def k0_off32 (i : grid0.Coords) : Fin 2 → Nat :=
  let arg0 : BitVec 32 := BitVec.ofNat 32 (i 0).val
  let c8_i32 : BitVec 32 := 8#32
  let v10 : BitVec 1 := Scalar.cmpi .slt arg0 c8_i32
  let c0_i32_12 : BitVec 32 := 0#32
  let c1_i32_11 : BitVec 32 := 1#32
  let c8_i32_4 : BitVec 32 := 8#32
  let v11 : BitVec 32 := Scalar.subi arg0 c8_i32_4
  let c0_i32_5 : BitVec 32 := 0#32
  let v12 : BitVec 32 := Scalar.maxsi v11 c0_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c2_i32 : BitVec 32 := 2#32
  let c0_i32_8 : BitVec 32 := 0#32
  let v19 : BitVec 1 := Scalar.cmpi .sgt c2_i32 c0_i32_8
  let v20 : BitVec 32 := Scalar.extui v19
  let c0_i32_9 : BitVec 32 := 0#32
  let v21 : BitVec 1 := Scalar.cmpi .slt c2_i32 c0_i32_9
  let v22 : BitVec 32 := Scalar.extui v21
  let v23 : BitVec 32 := Scalar.subi v20 v22
  let v24 : BitVec 1 := Scalar.cmpi .ne v18 v23
  let v25 : BitVec 32 := Scalar.remsi v12 c2_i32
  let c0_i32_10 : BitVec 32 := 0#32
  let v26 : BitVec 1 := Scalar.cmpi .ne v25 c0_i32_10
  let v27 : BitVec 1 := Scalar.andi v24 v26
  let v13 : BitVec 32 := Scalar.divsi v12 c2_i32
  let c1_i32 : BitVec 32 := 1#32
  let v28 : BitVec 32 := Scalar.subi v13 c1_i32
  let v29 : BitVec 32 := Scalar.select v27 v28 v13
  let v30 : BitVec 32 := Scalar.addi c1_i32_11 v29
  let v31 : BitVec 32 := Scalar.select v10 c0_i32_12 v30
  let v41 : Index := Scalar.indexCast v31
  let c1024 : Index := 1024#32
  ![v41.toNat, 1024]
def k0_off33 (i : grid0.Coords) : Fin 3 → Nat :=
  let arg0 : BitVec 32 := BitVec.ofNat 32 (i 0).val
  let c4_i32_17 : BitVec 32 := 4#32
  let v43 : BitVec 32 := Scalar.remsi arg0 c4_i32_17
  let v44 : Index := Scalar.indexCast v43
  let c0_18 : Index := 0#32
  let c0_19 : Index := 0#32
  ![v44.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3120x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16x256x1024 : Shape := ⟨3, ![16, 256, 1024]⟩
abbrev S2x1024x1024 : Shape := ⟨3, ![2, 1024, 1024]⟩
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x3120 : Shape := ⟨3, ![1, 1024, 3120]⟩
abbrev S_ : Shape := ⟨0, ![]⟩
abbrev S1024x6144 : Shape := ⟨2, ![1024, 6144]⟩
abbrev S6144 : Shape := ⟨1, ![6144]⟩
abbrev S1x1x6144 : Shape := ⟨3, ![1, 1, 6144]⟩
abbrev S1x1x1024 : Shape := ⟨3, ![1, 1, 1024]⟩
abbrev S16x256 : Shape := ⟨2, ![16, 256]⟩
abbrev S16x256x1 : Shape := ⟨3, ![16, 256, 1]⟩
abbrev S1024x3120 : Shape := ⟨2, ![1024, 3120]⟩
abbrev S16x256x3120 : Shape := ⟨3, ![16, 256, 3120]⟩
abbrev S4096x3120 : Shape := ⟨2, ![4096, 3120]⟩
abbrev S2x6144 : Shape := ⟨2, ![2, 6144]⟩
abbrev S2x1x6144 : Shape := ⟨3, ![2, 1, 6144]⟩
abbrev S2x1x1024 : Shape := ⟨3, ![2, 1, 1024]⟩
abbrev S2x1024x1 : Shape := ⟨3, ![2, 1024, 1]⟩
abbrev S2x1024x3120 : Shape := ⟨3, ![2, 1024, 3120]⟩
abbrev S2048x3120 : Shape := ⟨2, ![2048, 3120]⟩
abbrev S6144x3120 : Shape := ⟨2, ![6144, 3120]⟩
abbrev S6144x256 : Shape := ⟨2, ![6144, 256]⟩
abbrev S6144x512 : Shape := ⟨2, ![6144, 512]⟩
abbrev S6144x32 : Shape := ⟨2, ![6144, 32]⟩
abbrev S6144x16 : Shape := ⟨2, ![6144, 16]⟩
abbrev S6144x80 : Shape := ⟨2, ![6144, 80]⟩
abbrev S6144x1152 : Shape := ⟨2, ![6144, 1152]⟩
abbrev S6144x2048 : Shape := ⟨2, ![6144, 2048]⟩

abbrev nBuf : Space → Nat
  | .hbm => 122
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x1024x1024, .f32⟩
  | .hbm, ⟨2, _⟩ => ⟨S2x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x3120, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x6144, .f32⟩
  | .hbm, ⟨19, _⟩ => ⟨S1x6144, .f32⟩
  | .hbm, ⟨20, _⟩ => ⟨S6144, .f32⟩
  | .hbm, ⟨21, _⟩ => ⟨S1x6144, .f32⟩
  | .hbm, ⟨22, _⟩ => ⟨S1x6144, .f32⟩
  | .hbm, ⟨23, _⟩ => ⟨S1x1x6144, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S1024, .f32⟩
  | .hbm, ⟨31, _⟩ => ⟨S16x256x1024, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S_, .f32⟩
  | .hbm, ⟨39, _⟩ => ⟨S16x256x1, .f32⟩
  | .hbm, ⟨40, _⟩ => ⟨S16x256x1, .f32⟩
  | .hbm, ⟨41, _⟩ => ⟨S16x256x1, .f32⟩
  | .hbm, ⟨42, _⟩ => ⟨S16x256x1024, .f32⟩
  | .hbm, ⟨43, _⟩ => ⟨S16x256x1024, .f32⟩
  | .hbm, ⟨44, _⟩ => ⟨S1x1x1024, .f32⟩
  | .hbm, ⟨45, _⟩ => ⟨S16x256x1024, .f32⟩
  | .hbm, ⟨46, _⟩ => ⟨S16x256x1024, .f32⟩
  | .hbm, ⟨47, _⟩ => ⟨S_, .f32⟩
  | .hbm, ⟨48, _⟩ => ⟨S1x1x1024, .f32⟩
  | .hbm, ⟨49, _⟩ => ⟨S1x1x1024, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S16x256x1024, .f32⟩
  | .hbm, ⟨54, _⟩ => ⟨S1024x3120, .f32⟩
  | .hbm, ⟨55, _⟩ => ⟨S16x256x3120, .f32⟩
  | .hbm, ⟨56, _⟩ => ⟨S4096x3120, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S2x1024, .f32⟩
  | .hbm, ⟨61, _⟩ => ⟨S2x1024, .f32⟩
  | .hbm, ⟨62, _⟩ => ⟨S_, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S1024x6144, .f32⟩
  | .hbm, ⟨67, _⟩ => ⟨S2x6144, .f32⟩
  | .hbm, ⟨68, _⟩ => ⟨S6144, .f32⟩
  | .hbm, ⟨69, _⟩ => ⟨S1x6144, .f32⟩
  | .hbm, ⟨70, _⟩ => ⟨S2x6144, .f32⟩
  | .hbm, ⟨71, _⟩ => ⟨S2x6144, .f32⟩
  | .hbm, ⟨72, _⟩ => ⟨S2x1x6144, .f32⟩
  | .hbm, ⟨73, _⟩ => ⟨S2x1x1024, .f32⟩
  | .hbm, ⟨74, _⟩ => ⟨S2x1x1024, .f32⟩
  | .hbm, ⟨75, _⟩ => ⟨S2x1x1024, .f32⟩
  | .hbm, ⟨76, _⟩ => ⟨S2x1x1024, .f32⟩
  | .hbm, ⟨77, _⟩ => ⟨S2x1x1024, .f32⟩
  | .hbm, ⟨78, _⟩ => ⟨S2x1x1024, .f32⟩
  | .hbm, ⟨79, _⟩ => ⟨S1024, .f32⟩
  | .hbm, ⟨80, _⟩ => ⟨S2x1024x1024, .f32⟩
  | .hbm, ⟨81, _⟩ => ⟨S_, .f32⟩
  | .hbm, ⟨82, _⟩ => ⟨S2x1024, .f32⟩
  | .hbm, ⟨83, _⟩ => ⟨S2x1024x1, .f32⟩
  | .hbm, ⟨84, _⟩ => ⟨S_, .f32⟩
  | .hbm, ⟨85, _⟩ => ⟨S2x1024x1, .f32⟩
  | .hbm, ⟨86, _⟩ => ⟨S2x1024x1, .f32⟩
  | .hbm, ⟨87, _⟩ => ⟨S_, .f32⟩
  | .hbm, ⟨88, _⟩ => ⟨S2x1024x1, .f32⟩
  | .hbm, ⟨89, _⟩ => ⟨S2x1024x1, .f32⟩
  | .hbm, ⟨90, _⟩ => ⟨S2x1024x1, .f32⟩
  | .hbm, ⟨91, _⟩ => ⟨S2x1024x1024, .f32⟩
  | .hbm, ⟨92, _⟩ => ⟨S2x1024x1024, .f32⟩
  | .hbm, ⟨93, _⟩ => ⟨S1x1x1024, .f32⟩
  | .hbm, ⟨94, _⟩ => ⟨S2x1024x1024, .f32⟩
  | .hbm, ⟨95, _⟩ => ⟨S2x1024x1024, .f32⟩
  | .hbm, ⟨96, _⟩ => ⟨S_, .f32⟩
  | .hbm, ⟨97, _⟩ => ⟨S2x1x1024, .f32⟩
  | .hbm, ⟨98, _⟩ => ⟨S2x1x1024, .f32⟩
  | .hbm, ⟨99, _⟩ => ⟨S2x1024x1024, .f32⟩
  | .hbm, ⟨100, _⟩ => ⟨S2x1024x1024, .f32⟩
  | .hbm, ⟨101, _⟩ => ⟨S2x1024x1024, .f32⟩
  | .hbm, ⟨102, _⟩ => ⟨S2x1024x1024, .f32⟩
  | .hbm, ⟨103, _⟩ => ⟨S1024x3120, .f32⟩
  | .hbm, ⟨104, _⟩ => ⟨S2x1024x3120, .f32⟩
  | .hbm, ⟨105, _⟩ => ⟨S2048x3120, .f32⟩
  | .hbm, ⟨106, _⟩ => ⟨S6144x3120, .f32⟩
  | .hbm, ⟨107, _⟩ => ⟨S6144x256, .f32⟩
  | .hbm, ⟨108, _⟩ => ⟨S6144x256, .f32⟩
  | .hbm, ⟨109, _⟩ => ⟨S6144x512, .f32⟩
  | .hbm, ⟨110, _⟩ => ⟨S6144x512, .f32⟩
  | .hbm, ⟨111, _⟩ => ⟨S6144x32, .f32⟩
  | .hbm, ⟨112, _⟩ => ⟨S6144x256, .f32⟩
  | .hbm, ⟨113, _⟩ => ⟨S6144x256, .f32⟩
  | .hbm, ⟨114, _⟩ => ⟨S6144x512, .f32⟩
  | .hbm, ⟨115, _⟩ => ⟨S6144x512, .f32⟩
  | .hbm, ⟨116, _⟩ => ⟨S6144x16, .f32⟩
  | .hbm, ⟨117, _⟩ => ⟨S_, .f32⟩
  | .hbm, ⟨118, _⟩ => ⟨S6144x80, .f32⟩
  | .hbm, ⟨119, _⟩ => ⟨S6144x1152, .f32⟩
  | .hbm, ⟨120, _⟩ => ⟨S6144x2048, .f32⟩
  | .hbm, ⟨121, _⟩ => ⟨S6144x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_3 : Ref sig .tc := ⟨.hbm, 81, rfl⟩
abbrev main_v53 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_cst_5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_7 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Proof.OutFf.Row.lean ====
module

public import Idealize.ShloMosaic.Lib.Pointwise

/-! One token of the layer's second half, as a function of the token, the two mixers' outputs at it, its modulation and the
weights: what both programs are shown to compute, row by row, over the extended reals. -/

@[expose] public section

noncomputable section

namespace Cert.Row

open Idealize.ShloMosaic

/-- The root-mean-square normalisation of a row, scaled by `w`. -/
def norm (x w : Fin 1024 → EReal) (j : Fin 1024) : EReal :=
  x j * Ideal.rsqrt (Ideal.div (∑ k : Fin 1024, x k * x k) (Ideal.ofBits .f32 0x44800000#32) + Ideal.ofBits .f32 0x358637BD#32) * w j

/-- The first residual: the token plus the gated output projection of the two mixers' halves, by the projection's
    upper and lower rows. -/
def mix (x g : Fin 1024 → EReal) (a b : Fin 512 → EReal) (wa wb : Fin 512 → Fin 1024 → EReal) (j : Fin 1024) : EReal :=
  x j + g j * ((∑ k : Fin 512, a k * wa k j) + ∑ k : Fin 512, b k * wb k j)

/-- The normalised row modulated by a scale and a shift. -/
def modulate (x w sc sh : Fin 1024 → EReal) (j : Fin 1024) : EReal :=
  norm x w j * (Ideal.ofBits .f32 0x3F800000#32 + sc j) + sh j

/-- The feed-forward part: the squared rectified products of the row by `w1`, by `w2`. -/
def ff (h : Fin 1024 → EReal) (w1 : Fin 1024 → Fin 4096 → EReal) (w2 : Fin 4096 → Fin 1024 → EReal) (j : Fin 1024) : EReal :=
  ∑ f : Fin 4096, (max (∑ k : Fin 1024, h k * w1 k f) 0 * max (∑ k : Fin 1024, h k * w1 k f) 0) * w2 f j

/-- The second residual and the final normalisation, of the first residual `x` and the modulated row `h`. -/
def finish (x h g fin : Fin 1024 → EReal) (w1 : Fin 1024 → Fin 4096 → EReal) (w2 : Fin 4096 → Fin 1024 → EReal) : Fin 1024 → EReal :=
  norm (fun j => x j + g j * ff h w1 w2 j) fin

/-- The whole second half at one token. -/
def second (x : Fin 1024 → EReal) (a b : Fin 512 → EReal) (g1 sh sc g2 n2 fin : Fin 1024 → EReal) (wa wb : Fin 512 → Fin 1024 → EReal)
    (w1 : Fin 1024 → Fin 4096 → EReal) (w2 : Fin 4096 → Fin 1024 → EReal) : Fin 1024 → EReal :=
  finish (mix x g1 a b wa wb) (modulate (mix x g1 a b wa wb) n2 sc sh) g2 fin w1 w2

/-- Chunk `k` of the modulation's four. -/
def chunk (k : Fin 4) (mu : Fin 4096 → EReal) (j : Fin 1024) : EReal := mu ⟨1024 * k.val + j.val, by omega⟩

/-- The whole second half at one token, of the modulation row in one piece (gate, shift, scale, gate) and the arrays of weights. -/
def token (x : Fin 1024 → EReal) (a b : Fin 512 → EReal) (mu : Fin 4096 → EReal) (n2 : (⟨2, ![1, 1024]⟩ : Shape).Idx → EReal)
    (fin : (⟨1, ![1024]⟩ : Shape).Idx → EReal) (wo : (⟨3, ![1, 1024, 1024]⟩ : Shape).Idx → EReal)
    (w1 : (⟨3, ![1, 1024, 4096]⟩ : Shape).Idx → EReal) (w2 : (⟨3, ![1, 4096, 1024]⟩ : Shape).Idx → EReal) : Fin 1024 → EReal :=
  second x a b (chunk 0 mu) (chunk 1 mu) (chunk 2 mu) (chunk 3 mu) (fun j => n2 (ix2 0 j)) (fun j => fin (ix1 j))
    (fun k j => wo (ix3 0 ⟨k.val, by omega⟩ j)) (fun k j => wo (ix3 0 ⟨512 + k.val, by omega⟩ j)) (fun k f => w1 (ix3 0 k f))
    (fun f j => w2 (ix3 0 f j))

end Cert.Row

end
-- ==== Proof.OutFf.RunB.lean ====
module

public import proofs.«01_k».proof.Proof.Gen.KernelIdeal.Skeleton
public import proofs.«01_k».proof.Proof.Gen.KernelIdeal.Frame
public import Idealize.ShloMosaic.Lib.Pipeline.Value
public import Idealize.ShloMosaic.Lib.VecWindow

@[expose] public section

set_option maxRecDepth 16384

noncomputable section

namespace Cert.KernelIdeal.OutFf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the body stores at a latent point of coordinates `i`: the printed payloads at the point's blocks of tokens and of the two
    mixers' outputs, the modulation row the coordinates select, and the weights. -/
def tileB (i : grid0.Coords) (hc : k0_cond2 i = 1#1) (x : Vec F S512x1024 .f32) (a : Vec F S512x512 .bf16) (b : Vec F S512x512 .bf16)
    (x6 : Vec F S8x4096 .f32) (x7 : Vec F S1x1024 .f32) (x8 : Vec F S1x1024 .f32) (x9 : Vec F S1024x1024 .bf16)
    (x10 : Vec F S1024x4096 .bf16) (x11 : Vec F S4096x1024 .bf16) : Vec F S512x1024 .f32 :=
  k0_pay2 (k0_pay5 a (View.ld x9 (Rect.unit (s := S1024x1024) ![0, 0] S512x1024.size inb_S1024x1024_S512x1024_0_0)) b
        (View.ld x9 (Rect.unit (s := S1024x1024) ![512, 0] S512x1024.size inb_S1024x1024_S512x1024_512_0)) x (View.ld x6 (Rect.unit (s := S8x4096) (k0_off5 i) S1x1024.size (k0_off5_inb i hc))))
      (k0_pay6 a (View.ld x9 (Rect.unit (s := S1024x1024) ![0, 0] S512x1024.size inb_S1024x1024_S512x1024_0_0)) b
        (View.ld x9 (Rect.unit (s := S1024x1024) ![512, 0] S512x1024.size inb_S1024x1024_S512x1024_512_0)) x (View.ld x6 (Rect.unit (s := S8x4096) (k0_off5 i) S1x1024.size (k0_off5_inb i hc))) x7 (View.ld x6 (Rect.unit (s := S8x4096) (k0_off6 i) S1x1024.size (k0_off6_inb i hc))))
      (View.ld x6 (Rect.unit (s := S8x4096) (k0_off7 i) S1x1024.size (k0_off7_inb i hc))) x10 (View.ld x6 (Rect.unit (s := S8x4096) (k0_off8 i) S1x1024.size (k0_off8_inb i hc))) x11 x8

set_option maxHeartbeats 1000000 in
/-- The body at a latent point, on whole staging memrefs: the inputs' blocks and the other output's buffer stay as they were, and the
    latent output's buffer ends at `tileB`. -/
theorem runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x4096 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x4096 .bf16) (harg11 : arg11.IsWhole) (arg12 : Memref sig .tc .vmem S4096x1024 .bf16) (harg12 : arg12.IsWhole) (arg13 : Memref sig .tc .vmem S512x1024 .f32) (harg13 : arg13.IsWhole) (arg14 : Memref sig .tc .vmem S512x1024 .f32) (harg14 : arg14.IsWhole) (hc0 : ¬k0_cond1 i = 1#1) (hc1 : k0_cond2 i = 1#1)
    (x0 : Vec F S512x1024 .f32) (x1 : Vec F S512x1024 .f32) (x2 : Vec F S512x512 .bf16) (x3 : Vec F S512x512 .bf16) (x4 : Vec F S512x512 .bf16) (x5 : Vec F S512x512 .bf16) (x6 : Vec F S8x4096 .f32) (x7 : Vec F S1x1024 .f32) (x8 : Vec F S1x1024 .f32) (x9 : Vec F S1024x1024 .bf16) (x10 : Vec F S1024x4096 .bf16) (x11 : Vec F S4096x1024 .bf16) (y : Vec F S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare y ∗ owns (c : Thread nD τ) arg14 fullShare (tileB i hc1 x1 x3 x5 x6 x7 x8 x9 x10 x11)) -∗ K ⟨⟩))
          ⊢ wp frame (wpE (defs₀ (F := F)) Variants.none c none) E (cc0_outproj_mlp i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_outproj_mlp_eq_skeleton]; unfold cc0_outproj_mlp_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; isplitr; swap; · iexact H13
    ipureintro
    refine (View.read_writes_full _ _ _ _ _).trans ?_
    have e1 : ∀ inb, View.readAt (Elt F) arg2.view (Rect.unit (s := S512x1024) ![0, 0] ![512, 1024] inb).toLoadRect (harg2.unread x1) = x1 :=
      fun inb => (View.readAt_full _ _ inb).trans (harg2.read_unread _)
    have e3 : ∀ inb, View.readAt (Elt F) arg4.view (Rect.unit (s := S512x512) ![0, 0] ![512, 512] inb).toLoadRect (harg4.unread x3) = x3 :=
      fun inb => (View.readAt_full _ _ inb).trans (harg4.read_unread _)
    have e5 : ∀ inb, View.readAt (Elt F) arg6.view (Rect.unit (s := S512x512) ![0, 0] ![512, 512] inb).toLoadRect (harg6.unread x5) = x5 :=
      fun inb => (View.readAt_full _ _ inb).trans (harg6.read_unread _)
    have e7 : ∀ inb, View.readAt (Elt F) arg8.view (Rect.unit (s := S1x1024) ![0, 0] ![1, 1024] inb).toLoadRect (harg8.unread x7) = x7 :=
      fun inb => (View.readAt_full _ _ inb).trans (harg8.read_unread _)
    have e8 : ∀ inb, View.readAt (Elt F) arg9.view (Rect.unit (s := S1x1024) ![0, 0] ![1, 1024] inb).toLoadRect (harg9.unread x8) = x8 :=
      fun inb => (View.readAt_full _ _ inb).trans (harg9.read_unread _)
    have e10 : ∀ inb, View.readAt (Elt F) arg11.view (Rect.unit (s := S1024x4096) ![0, 0] ![1024, 4096] inb).toLoadRect (harg11.unread x10) = x10 :=
      fun inb => (View.readAt_full _ _ inb).trans (harg11.read_unread _)
    have e11 : ∀ inb, View.readAt (Elt F) arg12.view (Rect.unit (s := S4096x1024) ![0, 0] ![4096, 1024] inb).toLoadRect (harg12.unread x11) = x11 :=
      fun inb => (View.readAt_full _ _ inb).trans (harg12.read_unread _)
    unfold tileB runB.sl.r runB.sl.r_1
    simp only [e1, e3, e5, e7, e8, e10, e11]
    simp only [View.readAt_eq_ld, harg7.read_unread, harg10.read_unread]

end Cert.KernelIdeal.OutFf

end
-- ==== Proof.OutFf.RunA.lean ====
module

public import proofs.«01_k».proof.Proof.Gen.KernelIdeal.Skeleton
public import proofs.«01_k».proof.Proof.Gen.KernelIdeal.Frame
public import Idealize.ShloMosaic.Lib.Pipeline.Value
public import Idealize.ShloMosaic.Lib.VecWindow

@[expose] public section

set_option maxRecDepth 16384

noncomputable section

namespace Cert.KernelIdeal.OutFf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the body stores at a context point of coordinates `i`: the printed payloads at the point's blocks of tokens and of the two
    mixers' outputs, the modulation row the coordinates select, and the weights. -/
def tileA (i : grid0.Coords) (hc : k0_cond1 i = 1#1) (x : Vec F S512x1024 .f32) (a : Vec F S512x512 .bf16) (b : Vec F S512x512 .bf16)
    (x6 : Vec F S8x4096 .f32) (x7 : Vec F S1x1024 .f32) (x8 : Vec F S1x1024 .f32) (x9 : Vec F S1024x1024 .bf16)
    (x10 : Vec F S1024x4096 .bf16) (x11 : Vec F S4096x1024 .bf16) : Vec F S512x1024 .f32 :=
  k0_pay1 (k0_pay3 a (View.ld x9 (Rect.unit (s := S1024x1024) ![0, 0] S512x1024.size inb_S1024x1024_S512x1024_0_0)) b
        (View.ld x9 (Rect.unit (s := S1024x1024) ![512, 0] S512x1024.size inb_S1024x1024_S512x1024_512_0)) x (View.ld x6 (Rect.unit (s := S8x4096) (k0_off1 i) S1x1024.size (k0_off1_inb i hc))))
      (k0_pay4 a (View.ld x9 (Rect.unit (s := S1024x1024) ![0, 0] S512x1024.size inb_S1024x1024_S512x1024_0_0)) b
        (View.ld x9 (Rect.unit (s := S1024x1024) ![512, 0] S512x1024.size inb_S1024x1024_S512x1024_512_0)) x (View.ld x6 (Rect.unit (s := S8x4096) (k0_off1 i) S1x1024.size (k0_off1_inb i hc))) x7 (View.ld x6 (Rect.unit (s := S8x4096) (k0_off2 i) S1x1024.size (k0_off2_inb i hc))))
      (View.ld x6 (Rect.unit (s := S8x4096) (k0_off3 i) S1x1024.size (k0_off3_inb i hc))) x10 (View.ld x6 (Rect.unit (s := S8x4096) (k0_off4 i) S1x1024.size (k0_off4_inb i hc))) x11 x8

set_option maxHeartbeats 1000000 in
/-- The body at a context point, on whole staging memrefs: the inputs' blocks and the other output's buffer stay as they were, and the
    context output's buffer ends at `tileA`. -/
theorem runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S8x4096 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x4096 .bf16) (harg11 : arg11.IsWhole) (arg12 : Memref sig .tc .vmem S4096x1024 .bf16) (harg12 : arg12.IsWhole) (arg13 : Memref sig .tc .vmem S512x1024 .f32) (harg13 : arg13.IsWhole) (arg14 : Memref sig .tc .vmem S512x1024 .f32) (harg14 : arg14.IsWhole) (hc0 : k0_cond1 i = 1#1) (hc1 : ¬k0_cond2 i = 1#1)
    (x0 : Vec F S512x1024 .f32) (x1 : Vec F S512x1024 .f32) (x2 : Vec F S512x512 .bf16) (x3 : Vec F S512x512 .bf16) (x4 : Vec F S512x512 .bf16) (x5 : Vec F S512x512 .bf16) (x6 : Vec F S8x4096 .f32) (x7 : Vec F S1x1024 .f32) (x8 : Vec F S1x1024 .f32) (x9 : Vec F S1024x1024 .bf16) (x10 : Vec F S1024x4096 .bf16) (x11 : Vec F S4096x1024 .bf16) (y : Vec F S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare y
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (tileA i hc0 x0 x2 x4 x6 x7 x8 x9 x10 x11) ∗ owns (c : Thread nD τ) arg14 fullShare y) -∗ K ⟨⟩))
          ⊢ wp frame (wpE (defs₀ (F := F)) Variants.none c none) E (cc0_outproj_mlp i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_outproj_mlp_eq_skeleton]; unfold cc0_outproj_mlp_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      refine (View.read_writes_full _ _ _ _ _).trans ?_
      have e0 : ∀ inb, View.readAt (Elt F) arg1.view (Rect.unit (s := S512x1024) ![0, 0] ![512, 1024] inb).toLoadRect (harg1.unread x0) = x0 :=
        fun inb => (View.readAt_full _ _ inb).trans (harg1.read_unread _)
      have e2 : ∀ inb, View.readAt (Elt F) arg3.view (Rect.unit (s := S512x512) ![0, 0] ![512, 512] inb).toLoadRect (harg3.unread x2) = x2 :=
        fun inb => (View.readAt_full _ _ inb).trans (harg3.read_unread _)
      have e4 : ∀ inb, View.readAt (Elt F) arg5.view (Rect.unit (s := S512x512) ![0, 0] ![512, 512] inb).toLoadRect (harg5.unread x4) = x4 :=
        fun inb => (View.readAt_full _ _ inb).trans (harg5.read_unread _)
      have e7 : ∀ inb, View.readAt (Elt F) arg8.view (Rect.unit (s := S1x1024) ![0, 0] ![1, 1024] inb).toLoadRect (harg8.unread x7) = x7 :=
        fun inb => (View.readAt_full _ _ inb).trans (harg8.read_unread _)
      have e8 : ∀ inb, View.readAt (Elt F) arg9.view (Rect.unit (s := S1x1024) ![0, 0] ![1, 1024] inb).toLoadRect (harg9.unread x8) = x8 :=
        fun inb => (View.readAt_full _ _ inb).trans (harg9.read_unread _)
      have e10 : ∀ inb, View.readAt (Elt F) arg11.view (Rect.unit (s := S1024x4096) ![0, 0] ![1024, 4096] inb).toLoadRect (harg11.unread x10) = x10 :=
        fun inb => (View.readAt_full _ _ inb).trans (harg11.read_unread _)
      have e11 : ∀ inb, View.readAt (Elt F) arg12.view (Rect.unit (s := S4096x1024) ![0, 0] ![4096, 1024] inb).toLoadRect (harg12.unread x11) = x11 :=
        fun inb => (View.readAt_full _ _ inb).trans (harg12.read_unread _)
      unfold tileA runA.sl.r runA.sl.r_1
      simp only [e0, e2, e4, e7, e8, e10, e11]
      simp only [View.readAt_eq_ld, harg7.read_unread, harg10.read_unread]
    iexists _; isplitr; · ipureintro; exact harg14.read_unread _
    iexact H13

end Cert.KernelIdeal.OutFf

end
-- ==== Proof.OutFf.Payload.lean ====
module

public import proofs.«01_k».proof.Proof.OutFf.Row
public import proofs.«01_k».proof.Proof.OutFf.RunB
public import proofs.«01_k».proof.Proof.OutFf.RunA

/-! The kernel's stored tiles, read at an index over the extended reals: each row is `Cert.Row.second` of the row's data. -/

@[expose] public section

set_option maxRecDepth 16384

noncomputable section

namespace Cert.KernelIdeal.OutFf

open Idealize.ShloMosaic Idealize.ShloMosaic.Pointwise
open Cert.KernelIdeal.Gen

/-- The first residual at a row. -/
theorem pay3_apply (a : Vec Ideal S512x512 .bf16) (wa : Vec Ideal S512x1024 .bf16) (b : Vec Ideal S512x512 .bf16)
    (wb : Vec Ideal S512x1024 .bf16) (x : Vec Ideal S512x1024 .f32) (g : Vec Ideal S1x1024 .f32) (p : Fin 512) (q : Fin 1024) :
    k0_pay3 a wa b wb x g (ix2 p q) = Row.mix (fun j => x (ix2 p j)) (fun j => g (ix2 0 j)) (fun k => a (ix2 p k)) (fun k => b (ix2 p k))
      (fun k j => wa (ix2 k j)) (fun k j => wb (ix2 k j)) q := by
  unfold Row.mix
  pointwise [k0_pay3]

/-- The normalised row times one plus the scale. -/
theorem pay4_apply (a : Vec Ideal S512x512 .bf16) (wa : Vec Ideal S512x1024 .bf16) (b : Vec Ideal S512x512 .bf16)
    (wb : Vec Ideal S512x1024 .bf16) (x : Vec Ideal S512x1024 .f32) (g n2 sc : Vec Ideal S1x1024 .f32) (p : Fin 512) (q : Fin 1024) :
    k0_pay4 a wa b wb x g n2 sc (ix2 p q) = Row.norm (fun j => k0_pay3 a wa b wb x g (ix2 p j)) (fun j => n2 (ix2 0 j)) q
      * (Ideal.ofBits .f32 0x3F800000#32 + sc (ix2 0 q)) := by
  unfold k0_pay4
  generalize k0_pay3 a wa b wb x g = y
  unfold Row.norm
  pointwise []

/-- The stored row, of the first residual and the scaled normalised row. -/
theorem pay1_apply (x h : Vec Ideal S512x1024 .f32) (sh : Vec Ideal S1x1024 .f32) (w1 : Vec Ideal S1024x4096 .bf16)
    (g : Vec Ideal S1x1024 .f32) (w2 : Vec Ideal S4096x1024 .bf16) (fin : Vec Ideal S1x1024 .f32) (p : Fin 512) (q : Fin 1024) :
    k0_pay1 x h sh w1 g w2 fin (ix2 p q) = Row.finish (fun j => x (ix2 p j)) (fun j => h (ix2 p j) + sh (ix2 0 j)) (fun j => g (ix2 0 j))
      (fun j => fin (ix2 0 j)) (fun k f => w1 (ix2 k f)) (fun f j => w2 (ix2 f j)) q := by
  unfold Row.finish Row.norm Row.ff
  pointwise [k0_pay1]

end Cert.KernelIdeal.OutFf

end
-- ==== Proof.OutFf.Data.lean ====
module

public import proofs.«01_k».proof.Proof.OutFf.RunA
public import proofs.«01_k».proof.Proof.OutFf.RunB
public import Idealize.ShloMosaic.Lib.Claim

/-! The second half of the layer, run as one pipeline of twelve points: eight over the context tokens, then four over the
latent tokens.  A window of one kind of token is idle at the points of the other, so the proof data below holds the
context window still from point 7 on, until its last block is written back at point 11. -/

@[expose] public section

set_option maxRecDepth 16384

noncomputable section

namespace Cert.KernelIdeal.OutFf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The context branch runs at the points before point 8. -/
theorem ctx_iff : ∀ t : Fin cfg0.N, k0_cond1 (grid0.coords t) = 1#1 ↔ t.val < 8 :=
  (by decide +kernel : ∀ t : Fin grid0.N, k0_cond1 (grid0.coords t) = 1#1 ↔ t.val < 8)

/-- The latent branch runs at the points from point 8 on. -/
theorem lat_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- The context output's window is idle exactly at the latent points. -/
theorem idle12 : ∀ t : Fin cfg0.N, cfg0.idle 12 (grid0.coords t) = decide (8 ≤ t.val) :=
  (by decide +kernel : ∀ t : Fin grid0.N, cfg0.idle 12 (grid0.coords t) = decide (8 ≤ t.val))

/-- The latent output's window is idle exactly at the context points. -/
theorem idle13 : ∀ t : Fin cfg0.N, cfg0.idle 13 (grid0.coords t) = decide (t.val < 8) :=
  (by decide +kernel : ∀ t : Fin grid0.N, cfg0.idle 13 (grid0.coords t) = decide (t.val < 8))

/-- The context output is written back at points 0 to 6 and at point 11. -/
theorem flush12 : ∀ t : Fin cfg0.N, (cfg0.win 12).flush t = decide (t.val < 7 ∨ t.val = 11) :=
  (by decide +kernel : ∀ t : Fin grid0.N, (cfg0.win 12).flush t = decide (t.val < 7 ∨ t.val = 11))

/-- The latent output is written back at points 8 to 11. -/
theorem flush13 : ∀ t : Fin cfg0.N, (cfg0.win 13).flush t = decide (8 ≤ t.val) :=
  (by decide +kernel : ∀ t : Fin grid0.N, (cfg0.win 13).flush t = decide (8 ≤ t.val))

/-- The grid point of context tile `n`. -/
def ctxPt (n : Fin 8) : Fin cfg0.N := ⟨n.val, lt_of_lt_of_eq (by omega) (show 12 = cfg0.N from N_0.symm)⟩

/-- The grid point of latent tile `n`. -/
def latPt (n : Fin 4) : Fin cfg0.N := ⟨8 + n.val, lt_of_lt_of_eq (by omega) (show 12 = cfg0.N from N_0.symm)⟩

/-- What a context point `t` stores, of the blocks it stages. -/
def ctxAt (c : Dev nD) (t : Fin cfg0.N) (h : t.val < 8) : Vec F S512x1024 .f32 :=
  tileA (grid0.coords t) ((ctx_iff t).mpr h) (iblk m c 0 t) (iblk m c 2 t) (iblk m c 4 t)
    (iblk m c 6 t) (iblk m c 7 t) (iblk m c 8 t) (iblk m c 9 t) (iblk m c 10 t) (iblk m c 11 t)

/-- What a latent point `t` stores. -/
def latAt (c : Dev nD) (t : Fin cfg0.N) (h : 8 ≤ t.val) : Vec F S512x1024 .f32 :=
  tileB (grid0.coords t) ((lat_iff t).mpr h) (iblk m c 1 t) (iblk m c 3 t) (iblk m c 5 t)
    (iblk m c 6 t) (iblk m c 7 t) (iblk m c 8 t) (iblk m c 9 t) (iblk m c 10 t) (iblk m c 11 t)

/-- Context tile `n` of the result. -/
def ctxTile (c : Dev nD) (n : Fin 8) : Vec F S512x1024 .f32 := ctxAt m c (ctxPt n) n.isLt

/-- Latent tile `n` of the result. -/
def latTile (c : Dev nD) (n : Fin 4) : Vec F S512x1024 .f32 := latAt m c (latPt n) (Nat.le_add_right 8 n.val)

/-- The context tile the context output's buffer holds after point `t`: the point's own, and tile 7 from there on. -/
def ctxIx (t : Fin cfg0.N) : Fin 8 := ⟨min t.val 7, by omega⟩

/-- The latent tile of point `t` (of no meaning before point 8). -/
def latIx (t : Fin cfg0.N) : Fin 4 := ⟨t.val - 8, by have : t.val < 12 := lt_of_lt_of_eq t.isLt N_0; omega⟩

/-- A context point's own tile is what it stores. -/
theorem ctxTile_eq (c : Dev nD) (t : Fin cfg0.N) (h : t.val < 8) : ctxTile m c (ctxIx t) = ctxAt m c t h := by
  have e : ctxPt (ctxIx t) = t := Fin.ext (show min t.val 7 = t.val by omega)
  have key : ∀ (s : Fin cfg0.N) (hs : s.val < 8), s = t → ctxAt m c s hs = ctxAt m c t h := by rintro s hs rfl; rfl
  exact key _ _ e

/-- A latent point's own tile is what it stores. -/
theorem latTile_eq (c : Dev nD) (t : Fin cfg0.N) (h : 8 ≤ t.val) : latTile m c (latIx t) = latAt m c t h := by
  have e : latPt (latIx t) = t := Fin.ext (show 8 + (t.val - 8) = t.val by omega)
  have key : ∀ (s : Fin cfg0.N) (hs : 8 ≤ s.val), s = t → latAt m c s hs = latAt m c t h := by rintro s hs rfl; rfl
  exact key _ _ e

/-- The proof data: each input's buffer holds its block, the outputs' buffers hold the tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => ctxTile m c (ctxIx t)
    | ⟨13, _⟩ => latTile m c (latIx t)
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
/-- The context output's buffer after a point. -/
theorem after_12 (c : Dev nD) (t : Fin cfg0.N) : (dats m 0 c).after 12 t = ctxTile m c (ctxIx t) := by dsimp only [dats]
/-- The latent output's buffer after a point. -/
theorem after_13 (c : Dev nD) (t : Fin cfg0.N) : (dats m 0 c).after 13 t = latTile m c (latIx t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- From point 8 on the context output's buffer still holds tile 7. -/
theorem before_12 (c : Dev nD) : ∀ (k : ℕ) (hk : 8 + k < cfg0.N) (d), (dats m 0 c).before 12 ⟨8 + k, hk⟩ d = ctxTile m c 7
  | 0, hk, d => by
    rw [(dats m 0 c).before_of_pos 12 _ (by show 8 + 0 ≠ 0; omega) rfl, flush12, if_neg (by
      rw [decide_eq_true_eq]; show ¬ (8 + 0 - 1 < 7 ∨ 8 + 0 - 1 = 11); omega)]
    unfold Dat.left
    rw [idle12, decide_eq_false (by show ¬ 8 ≤ 8 + 0 - 1; omega)]
    show (dats m 0 c).kept 12 _ d = _
    exact after_12 m c _
  | k + 1, hk, d => by
    have hN : 8 + (k + 1) < 12 := lt_of_lt_of_eq hk N_0
    rw [(dats m 0 c).before_of_pos 12 _ (by show 8 + (k + 1) ≠ 0; omega) rfl, flush12, if_neg (by
      rw [decide_eq_true_eq]; show ¬ (8 + (k + 1) - 1 < 7 ∨ 8 + (k + 1) - 1 = 11); omega)]
    unfold Dat.left
    rw [idle12, decide_eq_true (by show 8 ≤ 8 + (k + 1) - 1; omega)]
    exact before_12 c k (Nat.lt_of_succ_lt hk) d

/-- Window 0's current staging memref at point `t`. -/
abbrev ms_0 (t : Fin cfg0.N) : Memref sig .tc .vmem S512x1024 .f32 := win0_0.stage (cfg0.slots t 0)
/-- Window 1's current staging memref at point `t`. -/
abbrev ms_1 (t : Fin cfg0.N) : Memref sig .tc .vmem S512x1024 .f32 := win0_1.stage (cfg0.slots t 1)
/-- Window 2's current staging memref at point `t`. -/
abbrev ms_2 (t : Fin cfg0.N) : Memref sig .tc .vmem S512x512 .bf16 := win0_2.stage (cfg0.slots t 2)
/-- Window 3's current staging memref at point `t`. -/
abbrev ms_3 (t : Fin cfg0.N) : Memref sig .tc .vmem S512x512 .bf16 := win0_3.stage (cfg0.slots t 3)
/-- Window 4's current staging memref at point `t`. -/
abbrev ms_4 (t : Fin cfg0.N) : Memref sig .tc .vmem S512x512 .bf16 := win0_4.stage (cfg0.slots t 4)
/-- Window 5's current staging memref at point `t`. -/
abbrev ms_5 (t : Fin cfg0.N) : Memref sig .tc .vmem S512x512 .bf16 := win0_5.stage (cfg0.slots t 5)
/-- Window 6's current staging memref at point `t`. -/
abbrev ms_6 (t : Fin cfg0.N) : Memref sig .tc .vmem S8x4096 .f32 := win0_6.stage (cfg0.slots t 6)
/-- Window 7's current staging memref at point `t`. -/
abbrev ms_7 (t : Fin cfg0.N) : Memref sig .tc .vmem S1x1024 .f32 := win0_7.stage (cfg0.slots t 7)
/-- Window 8's current staging memref at point `t`. -/
abbrev ms_8 (t : Fin cfg0.N) : Memref sig .tc .vmem S1x1024 .f32 := win0_8.stage (cfg0.slots t 8)
/-- Window 9's current staging memref at point `t`. -/
abbrev ms_9 (t : Fin cfg0.N) : Memref sig .tc .vmem S1024x1024 .bf16 := win0_9.stage (cfg0.slots t 9)
/-- Window 10's current staging memref at point `t`. -/
abbrev ms_10 (t : Fin cfg0.N) : Memref sig .tc .vmem S1024x4096 .bf16 := win0_10.stage (cfg0.slots t 10)
/-- Window 11's current staging memref at point `t`. -/
abbrev ms_11 (t : Fin cfg0.N) : Memref sig .tc .vmem S4096x1024 .bf16 := win0_11.stage (cfg0.slots t 11)
/-- Window 12's current staging memref at point `t`. -/
abbrev ms_12 (t : Fin cfg0.N) : Memref sig .tc .vmem S512x1024 .f32 := win0_12.stage (cfg0.slots t 12)
/-- Window 13's current staging memref at point `t`. -/
abbrev ms_13 (t : Fin cfg0.N) : Memref sig .tc .vmem S512x1024 .f32 := win0_13.stage (cfg0.slots t 13)

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves_0 (c : Dev nD) (t : Fin cfg0.N) :
    (dats m 0 c).leavesExact 0 t = owns (c : Thread nD τ) (ms_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (ms_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (ms_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (ms_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (ms_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (ms_5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (ms_6 t) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (ms_7 t) fullShare (iblk m c 7 t) := by
  unfold Dat.leavesExact; rw [show cfg0.idle 7 (cfg0.grid.coords t) = false from rfl, after_7]
theorem leaves_8 (c : Dev nD) (t : Fin cfg0.N) :
    (dats m 0 c).leavesExact 8 t = owns (c : Thread nD τ) (ms_8 t) fullShare (iblk m c 8 t) := by
  unfold Dat.leavesExact; rw [show cfg0.idle 8 (cfg0.grid.coords t) = false from rfl, after_8]
theorem leaves_9 (c : Dev nD) (t : Fin cfg0.N) :
    (dats m 0 c).leavesExact 9 t = owns (c : Thread nD τ) (ms_9 t) fullShare (iblk m c 9 t) := by
  unfold Dat.leavesExact; rw [show cfg0.idle 9 (cfg0.grid.coords t) = false from rfl, after_9]
theorem leaves_10 (c : Dev nD) (t : Fin cfg0.N) :
    (dats m 0 c).leavesExact 10 t = owns (c : Thread nD τ) (ms_10 t) fullShare (iblk m c 10 t) := by
  unfold Dat.leavesExact; rw [show cfg0.idle 10 (cfg0.grid.coords t) = false from rfl, after_10]
theorem leaves_11 (c : Dev nD) (t : Fin cfg0.N) :
    (dats m 0 c).leavesExact 11 t = owns (c : Thread nD τ) (ms_11 t) fullShare (iblk m c 11 t) := by
  unfold Dat.leavesExact; rw [show cfg0.idle 11 (cfg0.grid.coords t) = false from rfl, after_11]

/-- A context point leaves its tile in the context output's buffer. -/
theorem leaves_12_ctx (c : Dev nD) (t : Fin cfg0.N) (h : t.val < 8) :
    (dats m 0 c).leavesExact 12 t = owns (c : Thread nD τ) (ms_12 t) fullShare (ctxAt m c t h) := by
  unfold Dat.leavesExact; rw [idle12, decide_eq_false (by omega), after_12, ctxTile_eq m c t h]

/-- A context point leaves the latent output's buffer as it found it. -/
theorem leaves_13_ctx (c : Dev nD) (t : Fin cfg0.N) (h : t.val < 8) :
    (dats m 0 c).leavesExact 13 t = iprop(∃ d, owns (c : Thread nD τ) (ms_13 t) fullShare ((dats m 0 c).before 13 t d)) := by
  unfold Dat.leavesExact; rw [idle13, decide_eq_true h, flush13, decide_eq_false (by omega)]

/-- A latent point leaves its tile in the latent output's buffer. -/
theorem leaves_13_lat (c : Dev nD) (t : Fin cfg0.N) (h : 8 ≤ t.val) :
    (dats m 0 c).leavesExact 13 t = owns (c : Thread nD τ) (ms_13 t) fullShare (latAt m c t h) := by
  unfold Dat.leavesExact; rw [idle13, decide_eq_false (by omega), after_13, latTile_eq m c t h]

/-- A latent point leaves the context output's buffer as it found it: at point 11, which writes it back, that is tile 7. -/
theorem leaves_12_lat (c : Dev nD) (t : Fin cfg0.N) (h : 8 ≤ t.val) (d) :
    owns (c : Thread nD τ) (ms_12 t) fullShare ((dats m 0 c).before 12 t d) ⊢ (dats m 0 c).leavesExact 12 t := by
  have b12 : (dats m 0 c).before 12 t d = ctxTile m c 7 := by
    have e : t = ⟨8 + (t.val - 8), by rw [Nat.add_sub_cancel' h]; exact t.isLt⟩ := Fin.ext (show t.val = 8 + (t.val - 8) by omega)
    rw [e]; exact before_12 m c (t.val - 8) _ d
  unfold Dat.leavesExact; rw [idle12, decide_eq_true h, flush12]
  by_cases h2 : t.val = 11
  · have e : ctxIx t = 7 := Fin.ext (show min t.val 7 = 7 by omega)
    rw [decide_eq_true (Or.inr h2), after_12, b12, e]
  · rw [decide_eq_false (by omega)]
    iintro H; iexists d; iexact H

end Cert.KernelIdeal.OutFf

end
-- ==== Proof.OutFf.Blocks.lean ====
module

public import proofs.«01_k».proof.Proof.OutFf.Payload
public import proofs.«01_k».proof.Proof.OutFf.Data

/-! What each staged block holds at an index, in the launch arrays. -/

@[expose] public section

set_option maxRecDepth 16384

noncomputable section

namespace Cert.KernelIdeal.OutFf

open Idealize.ShloMosaic Idealize.ShloMosaic.TcCoe
open Cert.KernelIdeal.Gen

variable (m : (ℓ : Loc nD τ sig) → Buf (Elt Ideal) ℓ)

/-- The block index of window 0 at a context point. -/
theorem index0 : ∀ t : Fin cfg0.N, t.val < 8 → win0_0.index t 0 = t.val ∧ win0_0.index t 1 = 0 :=
  (by decide +kernel : ∀ t : Fin grid0.N, t.val < 8 → win0_0.index t 0 = t.val ∧ win0_0.index t 1 = 0)

/-- Window 0's block at a context point, an element of argument 0. -/
theorem iblk0_apply (c : Dev nD) (t : Fin cfg0.N) (n : Fin 8) (ht : t.val = n.val) (p : Fin 512) (q : Fin 1024) :
    (iblk m c 0 t : Vec Ideal S512x1024 .f32) (ix2 p q)
      = m ((c : Thread nD τ).loc main_arg0) (ix3 ⟨(512 * n.val + p.val) / 256, by omega⟩ ⟨(512 * n.val + p.val) % 256, by omega⟩ q) := by
  have hn : t.val = n.val := by omega
  obtain ⟨h0, h1⟩ := index0 t (by omega)
  rw [hn] at h0
  unfold iblk
  rw [View.read_apply]
  have e : ((cfg0.win 0).blk t).view.emb (ix2 p q) = (ix2 ⟨512 * n.val + p.val, by omega⟩ q : S4096x1024.Idx) := by
    funext a
    apply Fin.ext
    match a with
    | ⟨0, _⟩ => show win0_0.index t 0 * 512 + 1 * p.val = 512 * n.val + p.val; rw [h0]; omega
    | ⟨1, _⟩ => show win0_0.index t 1 * 1024 + 1 * q.val = q.val; rw [h1]; omega
  rw [e]
  entry_read
  refine (shapeCast_apply (s := S16x256x1024) (t := S4096x1024) _ _ _ (ix3 ⟨(512 * n.val + p.val) / 256, by omega⟩ ⟨(512 * n.val + p.val) % 256, by omega⟩ q) ?_)
  rw [Shape.rowMajor_val_three, Shape.rowMajor_val_two]
  show ((512 * n.val + p.val) / 256 * 256 + (512 * n.val + p.val) % 256) * 1024 + q.val = (512 * n.val + p.val) * 1024 + q.val
  omega

/-- The block index of window 1 at a latent point. -/
theorem index1 : ∀ t : Fin cfg0.N, 8 ≤ t.val → win0_1.index t 0 = t.val - 8 ∧ win0_1.index t 1 = 0 :=
  (by decide +kernel : ∀ t : Fin grid0.N, 8 ≤ t.val → win0_1.index t 0 = t.val - 8 ∧ win0_1.index t 1 = 0)

/-- Window 1's block at a latent point, an element of argument 1. -/
theorem iblk1_apply (c : Dev nD) (t : Fin cfg0.N) (n : Fin 4) (ht : t.val = 8 + n.val) (p : Fin 512) (q : Fin 1024) :
    (iblk m c 1 t : Vec Ideal S512x1024 .f32) (ix2 p q)
      = m ((c : Thread nD τ).loc main_arg1) (ix3 ⟨(512 * n.val + p.val) / 1024, by omega⟩ ⟨(512 * n.val + p.val) % 1024, by omega⟩ q) := by
  have hn : t.val - 8 = n.val := by omega
  obtain ⟨h0, h1⟩ := index1 t (by omega)
  rw [hn] at h0
  unfold iblk
  rw [View.read_apply]
  have e : ((cfg0.win 1).blk t).view.emb (ix2 p q) = (ix2 ⟨512 * n.val + p.val, by omega⟩ q : S2048x1024.Idx) := by
    funext a
    apply Fin.ext
    match a with
    | ⟨0, _⟩ => show win0_1.index t 0 * 512 + 1 * p.val = 512 * n.val + p.val; rw [h0]; omega
    | ⟨1, _⟩ => show win0_1.index t 1 * 1024 + 1 * q.val = q.val; rw [h1]; omega
  rw [e]
  entry_read
  refine (shapeCast_apply (s := S2x1024x1024) (t := S2048x1024) _ _ _ (ix3 ⟨(512 * n.val + p.val) / 1024, by omega⟩ ⟨(512 * n.val + p.val) % 1024, by omega⟩ q) ?_)
  rw [Shape.rowMajor_val_three, Shape.rowMajor_val_two]
  show ((512 * n.val + p.val) / 1024 * 1024 + (512 * n.val + p.val) % 1024) * 1024 + q.val = (512 * n.val + p.val) * 1024 + q.val
  omega

/-- The block index of window 2 at a context point. -/
theorem index2 : ∀ t : Fin cfg0.N, t.val < 8 → win0_2.index t 0 = t.val ∧ win0_2.index t 1 = 0 :=
  (by decide +kernel : ∀ t : Fin grid0.N, t.val < 8 → win0_2.index t 0 = t.val ∧ win0_2.index t 1 = 0)

/-- Window 2's block at a context point, an element of argument 2. -/
theorem iblk2_apply (c : Dev nD) (t : Fin cfg0.N) (n : Fin 8) (ht : t.val = n.val) (p : Fin 512) (q : Fin 512) :
    (iblk m c 2 t : Vec Ideal S512x512 .bf16) (ix2 p q)
      = m ((c : Thread nD τ).loc main_arg2) (ix3 ⟨(512 * n.val + p.val) / 256, by omega⟩ ⟨(512 * n.val + p.val) % 256, by omega⟩ q) := by
  have hn : t.val = n.val := by omega
  obtain ⟨h0, h1⟩ := index2 t (by omega)
  rw [hn] at h0
  unfold iblk
  rw [View.read_apply]
  have e : ((cfg0.win 2).blk t).view.emb (ix2 p q) = (ix2 ⟨512 * n.val + p.val, by omega⟩ q : S4096x512.Idx) := by
    funext a
    apply Fin.ext
    match a with
    | ⟨0, _⟩ => show win0_2.index t 0 * 512 + 1 * p.val = 512 * n.val + p.val; rw [h0]; omega
    | ⟨1, _⟩ => show win0_2.index t 1 * 512 + 1 * q.val = q.val; rw [h1]; omega
  rw [e]
  entry_read
  refine (shapeCast_apply (s := S16x256x512) (t := S4096x512) _ _ _ (ix3 ⟨(512 * n.val + p.val) / 256, by omega⟩ ⟨(512 * n.val + p.val) % 256, by omega⟩ q) ?_)
  rw [Shape.rowMajor_val_three, Shape.rowMajor_val_two]
  show ((512 * n.val + p.val) / 256 * 256 + (512 * n.val + p.val) % 256) * 512 + q.val = (512 * n.val + p.val) * 512 + q.val
  omega

/-- The block index of window 3 at a latent point. -/
theorem index3 : ∀ t : Fin cfg0.N, 8 ≤ t.val → win0_3.index t 0 = t.val - 8 ∧ win0_3.index t 1 = 0 :=
  (by decide +kernel : ∀ t : Fin grid0.N, 8 ≤ t.val → win0_3.index t 0 = t.val - 8 ∧ win0_3.index t 1 = 0)

/-- Window 3's block at a latent point, an element of argument 3. -/
theorem iblk3_apply (c : Dev nD) (t : Fin cfg0.N) (n : Fin 4) (ht : t.val = 8 + n.val) (p : Fin 512) (q : Fin 512) :
    (iblk m c 3 t : Vec Ideal S512x512 .bf16) (ix2 p q)
      = m ((c : Thread nD τ).loc main_arg3) (ix3 ⟨(512 * n.val + p.val) / 1024, by omega⟩ ⟨(512 * n.val + p.val) % 1024, by omega⟩ q) := by
  have hn : t.val - 8 = n.val := by omega
  obtain ⟨h0, h1⟩ := index3 t (by omega)
  rw [hn] at h0
  unfold iblk
  rw [View.read_apply]
  have e : ((cfg0.win 3).blk t).view.emb (ix2 p q) = (ix2 ⟨512 * n.val + p.val, by omega⟩ q : S2048x512.Idx) := by
    funext a
    apply Fin.ext
    match a with
    | ⟨0, _⟩ => show win0_3.index t 0 * 512 + 1 * p.val = 512 * n.val + p.val; rw [h0]; omega
    | ⟨1, _⟩ => show win0_3.index t 1 * 512 + 1 * q.val = q.val; rw [h1]; omega
  rw [e]
  entry_read
  refine (shapeCast_apply (s := S2x1024x512) (t := S2048x512) _ _ _ (ix3 ⟨(512 * n.val + p.val) / 1024, by omega⟩ ⟨(512 * n.val + p.val) % 1024, by omega⟩ q) ?_)
  rw [Shape.rowMajor_val_three, Shape.rowMajor_val_two]
  show ((512 * n.val + p.val) / 1024 * 1024 + (512 * n.val + p.val) % 1024) * 512 + q.val = (512 * n.val + p.val) * 512 + q.val
  omega

/-- The block index of window 4 at a context point. -/
theorem index4 : ∀ t : Fin cfg0.N, t.val < 8 → win0_4.index t 0 = t.val ∧ win0_4.index t 1 = 0 :=
  (by decide +kernel : ∀ t : Fin grid0.N, t.val < 8 → win0_4.index t 0 = t.val ∧ win0_4.index t 1 = 0)

/-- Window 4's block at a context point, an element of argument 4. -/
theorem iblk4_apply (c : Dev nD) (t : Fin cfg0.N) (n : Fin 8) (ht : t.val = n.val) (p : Fin 512) (q : Fin 512) :
    (iblk m c 4 t : Vec Ideal S512x512 .bf16) (ix2 p q)
      = m ((c : Thread nD τ).loc main_arg4) (ix3 ⟨(512 * n.val + p.val) / 256, by omega⟩ ⟨(512 * n.val + p.val) % 256, by omega⟩ q) := by
  have hn : t.val = n.val := by omega
  obtain ⟨h0, h1⟩ := index4 t (by omega)
  rw [hn] at h0
  unfold iblk
  rw [View.read_apply]
  have e : ((cfg0.win 4).blk t).view.emb (ix2 p q) = (ix2 ⟨512 * n.val + p.val, by omega⟩ q : S4096x512.Idx) := by
    funext a
    apply Fin.ext
    match a with
    | ⟨0, _⟩ => show win0_4.index t 0 * 512 + 1 * p.val = 512 * n.val + p.val; rw [h0]; omega
    | ⟨1, _⟩ => show win0_4.index t 1 * 512 + 1 * q.val = q.val; rw [h1]; omega
  rw [e]
  entry_read
  refine (shapeCast_apply (s := S16x256x512) (t := S4096x512) _ _ _ (ix3 ⟨(512 * n.val + p.val) / 256, by omega⟩ ⟨(512 * n.val + p.val) % 256, by omega⟩ q) ?_)
  rw [Shape.rowMajor_val_three, Shape.rowMajor_val_two]
  show ((512 * n.val + p.val) / 256 * 256 + (512 * n.val + p.val) % 256) * 512 + q.val = (512 * n.val + p.val) * 512 + q.val
  omega

/-- The block index of window 5 at a latent point. -/
theorem index5 : ∀ t : Fin cfg0.N, 8 ≤ t.val → win0_5.index t 0 = t.val - 8 ∧ win0_5.index t 1 = 0 :=
  (by decide +kernel : ∀ t : Fin grid0.N, 8 ≤ t.val → win0_5.index t 0 = t.val - 8 ∧ win0_5.index t 1 = 0)

/-- Window 5's block at a latent point, an element of argument 5. -/
theorem iblk5_apply (c : Dev nD) (t : Fin cfg0.N) (n : Fin 4) (ht : t.val = 8 + n.val) (p : Fin 512) (q : Fin 512) :
    (iblk m c 5 t : Vec Ideal S512x512 .bf16) (ix2 p q)
      = m ((c : Thread nD τ).loc main_arg5) (ix3 ⟨(512 * n.val + p.val) / 1024, by omega⟩ ⟨(512 * n.val + p.val) % 1024, by omega⟩ q) := by
  have hn : t.val - 8 = n.val := by omega
  obtain ⟨h0, h1⟩ := index5 t (by omega)
  rw [hn] at h0
  unfold iblk
  rw [View.read_apply]
  have e : ((cfg0.win 5).blk t).view.emb (ix2 p q) = (ix2 ⟨512 * n.val + p.val, by omega⟩ q : S2048x512.Idx) := by
    funext a
    apply Fin.ext
    match a with
    | ⟨0, _⟩ => show win0_5.index t 0 * 512 + 1 * p.val = 512 * n.val + p.val; rw [h0]; omega
    | ⟨1, _⟩ => show win0_5.index t 1 * 512 + 1 * q.val = q.val; rw [h1]; omega
  rw [e]
  entry_read
  refine (shapeCast_apply (s := S2x1024x512) (t := S2048x512) _ _ _ (ix3 ⟨(512 * n.val + p.val) / 1024, by omega⟩ ⟨(512 * n.val + p.val) % 1024, by omega⟩ q) ?_)
  rw [Shape.rowMajor_val_three, Shape.rowMajor_val_two]
  show ((512 * n.val + p.val) / 1024 * 1024 + (512 * n.val + p.val) % 1024) * 512 + q.val = (512 * n.val + p.val) * 512 + q.val
  omega

/-- Window 6's block is its whole array at every point. -/
theorem index6 : ∀ t : Fin cfg0.N, win0_6.index t 0 = 0 ∧ win0_6.index t 1 = 0 :=
  (by decide +kernel : ∀ t : Fin grid0.N, win0_6.index t 0 = 0 ∧ win0_6.index t 1 = 0)

/-- Window 6's block, an element of argument 6. -/
theorem iblk6_apply (c : Dev nD) (t : Fin cfg0.N) (i : Fin 8) (j : Fin 4096) :
    (iblk m c 6 t : Vec Ideal S8x4096 .f32) (ix2 i j) = m ((c : Thread nD τ).loc main_arg6) (ix2 i j) := by
  obtain ⟨h0, h1⟩ := index6 t
  unfold iblk
  rw [View.read_apply]
  have e : ((cfg0.win 6).blk t).view.emb (ix2 i j) = (ix2 i j : S8x4096.Idx) := by
    funext a
    apply Fin.ext
    match a with
    | ⟨0, _⟩ => show win0_6.index t 0 * 8 + 1 * i.val = i.val; rw [h0]; omega
    | ⟨1, _⟩ => show win0_6.index t 1 * 4096 + 1 * j.val = j.val; rw [h1]; omega
  rw [e]
  entry_read
  rfl

/-- Window 7's block is its whole array at every point. -/
theorem index7 : ∀ t : Fin cfg0.N, win0_7.index t 0 = 0 ∧ win0_7.index t 1 = 0 :=
  (by decide +kernel : ∀ t : Fin grid0.N, win0_7.index t 0 = 0 ∧ win0_7.index t 1 = 0)

/-- Flattening a row and restoring it changes nothing. -/
theorem norm2_cast (x : S1x1024.Idx → EReal) (h : S1x1024.ShapeCasts S1024) (h' : S1024.ShapeCasts S1x1024) :
      shapeCast S1x1024 (shapeCast S1024 x h) h' = x := by
  funext i
  have hi : i = ix2 0 (i 1) := (eq_ix2 i).trans (by congr 1; exact Subsingleton.elim _ _)
  have e1 := shapeCast_apply (shapeCast S1024 x h) h' (ix2 0 (i 1)) (ix1 (i 1)) (by
      rw [Shape.rowMajor_val_one, Shape.rowMajor_val_two]
      show (i 1).val = 0 * 1024 + (i 1).val
      omega)
  have e2 := shapeCast_apply x h (ix1 (i 1)) (ix2 0 (i 1)) (by
      rw [Shape.rowMajor_val_one, Shape.rowMajor_val_two]
      show 0 * 1024 + (i 1).val = (i 1).val
      omega)
  rw [hi]
  exact e1.trans e2

/-- The norm's weights as staged. -/
theorem V_main_v13 (c : Dev nD) : V m c main_v13 = m ((c : Thread nD τ).loc main_arg7) := by
  entry_read
  exact norm2_cast _ _ _

/-- Window 7's block, an element of argument 7. -/
theorem iblk7_apply (c : Dev nD) (t : Fin cfg0.N) (i : Fin 1) (j : Fin 1024) :
    (iblk m c 7 t : Vec Ideal S1x1024 .f32) (ix2 i j) = m ((c : Thread nD τ).loc main_arg7) (ix2 0 j) := by
  obtain ⟨h0, h1⟩ := index7 t
  unfold iblk
  rw [View.read_apply]
  have e : ((cfg0.win 7).blk t).view.emb (ix2 i j) = (ix2 i j : S1x1024.Idx) := by
    funext a
    apply Fin.ext
    match a with
    | ⟨0, _⟩ => show win0_7.index t 0 * 1 + 1 * i.val = i.val; rw [h0]; omega
    | ⟨1, _⟩ => show win0_7.index t 1 * 1024 + 1 * j.val = j.val; rw [h1]; omega
  rw [e]
  obtain rfl : i = 0 := Subsingleton.elim _ _
  exact congrFun (V_main_v13 m c) (ix2 0 j)

/-- Window 8's block is its whole array at every point. -/
theorem index8 : ∀ t : Fin cfg0.N, win0_8.index t 0 = 0 ∧ win0_8.index t 1 = 0 :=
  (by decide +kernel : ∀ t : Fin grid0.N, win0_8.index t 0 = 0 ∧ win0_8.index t 1 = 0)

/-- Window 8's block, an element of argument 8. -/
theorem iblk8_apply (c : Dev nD) (t : Fin cfg0.N) (i : Fin 1) (j : Fin 1024) :
    (iblk m c 8 t : Vec Ideal S1x1024 .f32) (ix2 i j) = m ((c : Thread nD τ).loc main_arg8) (ix1 j) := by
  obtain ⟨h0, h1⟩ := index8 t
  unfold iblk
  rw [View.read_apply]
  have e : ((cfg0.win 8).blk t).view.emb (ix2 i j) = (ix2 i j : S1x1024.Idx) := by
    funext a
    apply Fin.ext
    match a with
    | ⟨0, _⟩ => show win0_8.index t 0 * 1 + 1 * i.val = i.val; rw [h0]; omega
    | ⟨1, _⟩ => show win0_8.index t 1 * 1024 + 1 * j.val = j.val; rw [h1]; omega
  rw [e]
  entry_read
  obtain rfl : i = 0 := Subsingleton.elim _ _
  refine (shapeCast_apply (s := S1024) (t := S1x1024) _ _ _ (ix1 j) ?_)
  rw [Shape.rowMajor_val_one, Shape.rowMajor_val_two]
  show j.val = 0 * 1024 + j.val
  omega

/-- Window 9's block is its whole array at every point. -/
theorem index9 : ∀ t : Fin cfg0.N, win0_9.index t 0 = 0 ∧ win0_9.index t 1 = 0 :=
  (by decide +kernel : ∀ t : Fin grid0.N, win0_9.index t 0 = 0 ∧ win0_9.index t 1 = 0)

/-- Window 9's block, an element of argument 9. -/
theorem iblk9_apply (c : Dev nD) (t : Fin cfg0.N) (i : Fin 1024) (j : Fin 1024) :
    (iblk m c 9 t : Vec Ideal S1024x1024 .bf16) (ix2 i j) = m ((c : Thread nD τ).loc main_arg9) (ix3 0 i j) := by
  obtain ⟨h0, h1⟩ := index9 t
  unfold iblk
  rw [View.read_apply]
  have e : ((cfg0.win 9).blk t).view.emb (ix2 i j) = (ix2 i j : S1024x1024.Idx) := by
    funext a
    apply Fin.ext
    match a with
    | ⟨0, _⟩ => show win0_9.index t 0 * 1024 + 1 * i.val = i.val; rw [h0]; omega
    | ⟨1, _⟩ => show win0_9.index t 1 * 1024 + 1 * j.val = j.val; rw [h1]; omega
  rw [e]
  entry_read
  refine (shapeCast_apply (s := S1x1024x1024) (t := S1024x1024) _ _ _ (ix3 0 i j) ?_)
  rw [Shape.rowMajor_val_three, Shape.rowMajor_val_two]
  show (0 * 1024 + i.val) * 1024 + j.val = i.val * 1024 + j.val
  omega

/-- Window 10's block is its whole array at every point. -/
theorem index10 : ∀ t : Fin cfg0.N, win0_10.index t 0 = 0 ∧ win0_10.index t 1 = 0 :=
  (by decide +kernel : ∀ t : Fin grid0.N, win0_10.index t 0 = 0 ∧ win0_10.index t 1 = 0)

/-- Window 10's block, an element of argument 10. -/
theorem iblk10_apply (c : Dev nD) (t : Fin cfg0.N) (i : Fin 1024) (j : Fin 4096) :
    (iblk m c 10 t : Vec Ideal S1024x4096 .bf16) (ix2 i j) = m ((c : Thread nD τ).loc main_arg10) (ix3 0 i j) := by
  obtain ⟨h0, h1⟩ := index10 t
  unfold iblk
  rw [View.read_apply]
  have e : ((cfg0.win 10).blk t).view.emb (ix2 i j) = (ix2 i j : S1024x4096.Idx) := by
    funext a
    apply Fin.ext
    match a with
    | ⟨0, _⟩ => show win0_10.index t 0 * 1024 + 1 * i.val = i.val; rw [h0]; omega
    | ⟨1, _⟩ => show win0_10.index t 1 * 4096 + 1 * j.val = j.val; rw [h1]; omega
  rw [e]
  entry_read
  refine (shapeCast_apply (s := S1x1024x4096) (t := S1024x4096) _ _ _ (ix3 0 i j) ?_)
  rw [Shape.rowMajor_val_three, Shape.rowMajor_val_two]
  show (0 * 1024 + i.val) * 4096 + j.val = i.val * 4096 + j.val
  omega

/-- Window 11's block is its whole array at every point. -/
theorem index11 : ∀ t : Fin cfg0.N, win0_11.index t 0 = 0 ∧ win0_11.index t 1 = 0 :=
  (by decide +kernel : ∀ t : Fin grid0.N, win0_11.index t 0 = 0 ∧ win0_11.index t 1 = 0)

/-- Window 11's block, an element of argument 11. -/
theorem iblk11_apply (c : Dev nD) (t : Fin cfg0.N) (i : Fin 4096) (j : Fin 1024) :
    (iblk m c 11 t : Vec Ideal S4096x1024 .bf16) (ix2 i j) = m ((c : Thread nD τ).loc main_arg11) (ix3 0 i j) := by
  obtain ⟨h0, h1⟩ := index11 t
  unfold iblk
  rw [View.read_apply]
  have e : ((cfg0.win 11).blk t).view.emb (ix2 i j) = (ix2 i j : S4096x1024.Idx) := by
    funext a
    apply Fin.ext
    match a with
    | ⟨0, _⟩ => show win0_11.index t 0 * 4096 + 1 * i.val = i.val; rw [h0]; omega
    | ⟨1, _⟩ => show win0_11.index t 1 * 1024 + 1 * j.val = j.val; rw [h1]; omega
  rw [e]
  entry_read
  refine (shapeCast_apply (s := S1x4096x1024) (t := S4096x1024) _ _ _ (ix3 0 i j) ?_)
  rw [Shape.rowMajor_val_three, Shape.rowMajor_val_two]
  show (0 * 4096 + i.val) * 1024 + j.val = i.val * 1024 + j.val
  omega

end Cert.KernelIdeal.OutFf

end
-- ==== Proof.OutFf.Tile.lean ====
module

public import proofs.«01_k».proof.Proof.OutFf.Blocks

/-! Each tile the kernel stores, row by row, in the launch arrays. -/

@[expose] public section

set_option maxRecDepth 16384

noncomputable section

namespace Cert.KernelIdeal.OutFf

open Idealize.ShloMosaic Idealize.ShloMosaic.TcCoe
open Cert.KernelIdeal.Gen

variable (m : (ℓ : Loc nD τ sig) → Buf (Elt Ideal) ℓ)

/-- A load of one chunk of one modulation row. -/
theorem ld_mod (x : Vec Ideal S8x4096 .f32) (off : Fin 2 → ℕ) (inb : ∀ a, off a + S1x1024.size a ≤ S8x4096.size a) (r : Fin 8) (k : Fin 4)
    (h0 : off 0 = r.val) (h1 : off 1 = 1024 * k.val) (j : Fin 1024) :
    View.ld x (Rect.unit (s := S8x4096) off S1x1024.size inb) (ix2 0 j) = Row.chunk k (fun i => x (ix2 r i)) j := by
  unfold Row.chunk
  refine congrArg x ?_
  funext a
  apply Fin.ext
  match a with
  | ⟨0, _⟩ => show off 0 + 1 * 0 = r.val; omega
  | ⟨1, _⟩ => show off 1 + 1 * j.val = 1024 * k.val + j.val; omega

/-- A load of the upper rows of the projection's weights. -/
theorem ld_top (x : Vec Ideal S1024x1024 .bf16) (i : Fin 512) (j : Fin 1024) :
    View.ld x (Rect.unit (s := S1024x1024) ![0, 0] ![512, 1024] inb_S1024x1024_S512x1024_0_0) (ix2 i j) = x (ix2 ⟨i.val, by omega⟩ j) := by
  refine congrArg x ?_
  funext a
  apply Fin.ext
  match a with
  | ⟨0, _⟩ => show 0 + 1 * i.val = i.val; omega
  | ⟨1, _⟩ => show 0 + 1 * j.val = j.val; omega

/-- A load of its lower rows. -/
theorem ld_bot (x : Vec Ideal S1024x1024 .bf16) (i : Fin 512) (j : Fin 1024) :
    View.ld x (Rect.unit (s := S1024x1024) ![512, 0] ![512, 1024] inb_S1024x1024_S512x1024_512_0) (ix2 i j)
      = x (ix2 ⟨512 + i.val, by omega⟩ j) := by
  refine congrArg x ?_
  funext a
  apply Fin.ext
  match a with
  | ⟨0, _⟩ => show 512 + 1 * i.val = 512 + i.val; omega
  | ⟨1, _⟩ => show 0 + 1 * j.val = j.val; omega

/-- The modulation words read at a context point. -/
theorem off1_eq : ∀ t : Fin cfg0.N, t.val < 8 → k0_off1 (grid0.coords t) 0 = 0 ∧ k0_off1 (grid0.coords t) 1 = 1024 * 0 :=
  (by decide +kernel : ∀ t : Fin grid0.N, t.val < 8 → k0_off1 (grid0.coords t) 0 = 0 ∧ k0_off1 (grid0.coords t) 1 = 1024 * 0)

/-- The modulation words read at a context point. -/
theorem off2_eq : ∀ t : Fin cfg0.N, t.val < 8 → k0_off2 (grid0.coords t) 0 = 0 ∧ k0_off2 (grid0.coords t) 1 = 1024 * 2 :=
  (by decide +kernel : ∀ t : Fin grid0.N, t.val < 8 → k0_off2 (grid0.coords t) 0 = 0 ∧ k0_off2 (grid0.coords t) 1 = 1024 * 2)

/-- The modulation words read at a context point. -/
theorem off3_eq : ∀ t : Fin cfg0.N, t.val < 8 → k0_off3 (grid0.coords t) 0 = 0 ∧ k0_off3 (grid0.coords t) 1 = 1024 * 1 :=
  (by decide +kernel : ∀ t : Fin grid0.N, t.val < 8 → k0_off3 (grid0.coords t) 0 = 0 ∧ k0_off3 (grid0.coords t) 1 = 1024 * 1)

/-- The modulation words read at a context point. -/
theorem off4_eq : ∀ t : Fin cfg0.N, t.val < 8 → k0_off4 (grid0.coords t) 0 = 0 ∧ k0_off4 (grid0.coords t) 1 = 1024 * 3 :=
  (by decide +kernel : ∀ t : Fin grid0.N, t.val < 8 → k0_off4 (grid0.coords t) 0 = 0 ∧ k0_off4 (grid0.coords t) 1 = 1024 * 3)

/-- A context point's tile at a row, of the blocks. -/
theorem tileA_apply (t : Fin cfg0.N) (ht : t.val < 8) (hc : k0_cond1 (grid0.coords t) = 1#1) (x : Vec Ideal S512x1024 .f32) (a b : Vec Ideal S512x512 .bf16)
    (x6 : Vec Ideal S8x4096 .f32) (x7 x8 : Vec Ideal S1x1024 .f32) (x9 : Vec Ideal S1024x1024 .bf16)
    (x10 : Vec Ideal S1024x4096 .bf16) (x11 : Vec Ideal S4096x1024 .bf16) (r : Fin 8) (hr : r.val = 0) (p : Fin 512) (q : Fin 1024) :
    tileA (grid0.coords t) hc x a b x6 x7 x8 x9 x10 x11 (ix2 p q)
      = Row.second (fun j => x (ix2 p j)) (fun k => a (ix2 p k)) (fun k => b (ix2 p k)) (Row.chunk 0 fun i => x6 (ix2 r i))
          (Row.chunk 1 fun i => x6 (ix2 r i)) (Row.chunk 2 fun i => x6 (ix2 r i)) (Row.chunk 3 fun i => x6 (ix2 r i))
          (fun j => x7 (ix2 0 j)) (fun j => x8 (ix2 0 j)) (fun k j => x9 (ix2 ⟨k.val, by omega⟩ j))
          (fun k j => x9 (ix2 ⟨512 + k.val, by omega⟩ j)) (fun k f => x10 (ix2 k f)) (fun f j => x11 (ix2 f j)) q := by
  unfold tileA
  have e1 := (fun j => ld_mod x6 (k0_off1 (grid0.coords t)) (k0_off1_inb (grid0.coords t) hc) r 0 ((off1_eq t ht).1.trans hr.symm) (off1_eq t ht).2 j)
  have e2 := (fun j => ld_mod x6 (k0_off2 (grid0.coords t)) (k0_off2_inb (grid0.coords t) hc) r 2 ((off2_eq t ht).1.trans hr.symm) (off2_eq t ht).2 j)
  have e3 := (fun j => ld_mod x6 (k0_off3 (grid0.coords t)) (k0_off3_inb (grid0.coords t) hc) r 1 ((off3_eq t ht).1.trans hr.symm) (off3_eq t ht).2 j)
  have e4 := (fun j => ld_mod x6 (k0_off4 (grid0.coords t)) (k0_off4_inb (grid0.coords t) hc) r 3 ((off4_eq t ht).1.trans hr.symm) (off4_eq t ht).2 j)
  refine Eq.trans ?_ (congrArg₂ (fun (wa wb : Fin 512 → Fin 1024 → EReal) =>
        Row.second (fun j => x (ix2 p j)) (fun k => a (ix2 p k)) (fun k => b (ix2 p k)) (Row.chunk 0 fun i => x6 (ix2 r i))
          (Row.chunk 1 fun i => x6 (ix2 r i)) (Row.chunk 2 fun i => x6 (ix2 r i)) (Row.chunk 3 fun i => x6 (ix2 r i))
          (fun j => x7 (ix2 0 j)) (fun j => x8 (ix2 0 j)) wa wb (fun k f => x10 (ix2 k f)) (fun f j => x11 (ix2 f j)) q)
      (funext fun k => funext fun j => ld_top x9 k j) (funext fun k => funext fun j => ld_bot x9 k j))
  rw [pay1_apply]
  unfold Row.second Row.modulate
  simp only [pay4_apply, pay3_apply, e1, e2, e3, e4]

/-- The modulation words read at a latent point. -/
theorem off5_eq : ∀ t : Fin cfg0.N, 8 ≤ t.val → k0_off5 (grid0.coords t) 0 = 1 + (t.val - 8) / 2 ∧ k0_off5 (grid0.coords t) 1 = 1024 * 0 :=
  (by decide +kernel : ∀ t : Fin grid0.N, 8 ≤ t.val → k0_off5 (grid0.coords t) 0 = 1 + (t.val - 8) / 2 ∧ k0_off5 (grid0.coords t) 1 = 1024 * 0)

/-- The modulation words read at a latent point. -/
theorem off6_eq : ∀ t : Fin cfg0.N, 8 ≤ t.val → k0_off6 (grid0.coords t) 0 = 1 + (t.val - 8) / 2 ∧ k0_off6 (grid0.coords t) 1 = 1024 * 2 :=
  (by decide +kernel : ∀ t : Fin grid0.N, 8 ≤ t.val → k0_off6 (grid0.coords t) 0 = 1 + (t.val - 8) / 2 ∧ k0_off6 (grid0.coords t) 1 = 1024 * 2)

/-- The modulation words read at a latent point. -/
theorem off7_eq : ∀ t : Fin cfg0.N, 8 ≤ t.val → k0_off7 (grid0.coords t) 0 = 1 + (t.val - 8) / 2 ∧ k0_off7 (grid0.coords t) 1 = 1024 * 1 :=
  (by decide +kernel : ∀ t : Fin grid0.N, 8 ≤ t.val → k0_off7 (grid0.coords t) 0 = 1 + (t.val - 8) / 2 ∧ k0_off7 (grid0.coords t) 1 = 1024 * 1)

/-- The modulation words read at a latent point. -/
theorem off8_eq : ∀ t : Fin cfg0.N, 8 ≤ t.val → k0_off8 (grid0.coords t) 0 = 1 + (t.val - 8) / 2 ∧ k0_off8 (grid0.coords t) 1 = 1024 * 3 :=
  (by decide +kernel : ∀ t : Fin grid0.N, 8 ≤ t.val → k0_off8 (grid0.coords t) 0 = 1 + (t.val - 8) / 2 ∧ k0_off8 (grid0.coords t) 1 = 1024 * 3)

/-- A latent point's tile at a row, of the blocks. -/
theorem tileB_apply (t : Fin cfg0.N) (ht : 8 ≤ t.val) (hc : k0_cond2 (grid0.coords t) = 1#1) (x : Vec Ideal S512x1024 .f32) (a b : Vec Ideal S512x512 .bf16)
    (x6 : Vec Ideal S8x4096 .f32) (x7 x8 : Vec Ideal S1x1024 .f32) (x9 : Vec Ideal S1024x1024 .bf16)
    (x10 : Vec Ideal S1024x4096 .bf16) (x11 : Vec Ideal S4096x1024 .bf16) (r : Fin 8) (hr : r.val = 1 + (t.val - 8) / 2) (p : Fin 512) (q : Fin 1024) :
    tileB (grid0.coords t) hc x a b x6 x7 x8 x9 x10 x11 (ix2 p q)
      = Row.second (fun j => x (ix2 p j)) (fun k => a (ix2 p k)) (fun k => b (ix2 p k)) (Row.chunk 0 fun i => x6 (ix2 r i))
          (Row.chunk 1 fun i => x6 (ix2 r i)) (Row.chunk 2 fun i => x6 (ix2 r i)) (Row.chunk 3 fun i => x6 (ix2 r i))
          (fun j => x7 (ix2 0 j)) (fun j => x8 (ix2 0 j)) (fun k j => x9 (ix2 ⟨k.val, by omega⟩ j))
          (fun k j => x9 (ix2 ⟨512 + k.val, by omega⟩ j)) (fun k f => x10 (ix2 k f)) (fun f j => x11 (ix2 f j)) q := by
  unfold tileB
  rw [show @k0_pay2 Ideal _ = @k0_pay1 Ideal _ from rfl, show @k0_pay5 Ideal _ = @k0_pay3 Ideal _ from rfl,
    show @k0_pay6 Ideal _ = @k0_pay4 Ideal _ from rfl]
  have e1 := (fun j => ld_mod x6 (k0_off5 (grid0.coords t)) (k0_off5_inb (grid0.coords t) hc) r 0 ((off5_eq t ht).1.trans hr.symm) (off5_eq t ht).2 j)
  have e2 := (fun j => ld_mod x6 (k0_off6 (grid0.coords t)) (k0_off6_inb (grid0.coords t) hc) r 2 ((off6_eq t ht).1.trans hr.symm) (off6_eq t ht).2 j)
  have e3 := (fun j => ld_mod x6 (k0_off7 (grid0.coords t)) (k0_off7_inb (grid0.coords t) hc) r 1 ((off7_eq t ht).1.trans hr.symm) (off7_eq t ht).2 j)
  have e4 := (fun j => ld_mod x6 (k0_off8 (grid0.coords t)) (k0_off8_inb (grid0.coords t) hc) r 3 ((off8_eq t ht).1.trans hr.symm) (off8_eq t ht).2 j)
  refine Eq.trans ?_ (congrArg₂ (fun (wa wb : Fin 512 → Fin 1024 → EReal) =>
        Row.second (fun j => x (ix2 p j)) (fun k => a (ix2 p k)) (fun k => b (ix2 p k)) (Row.chunk 0 fun i => x6 (ix2 r i))
          (Row.chunk 1 fun i => x6 (ix2 r i)) (Row.chunk 2 fun i => x6 (ix2 r i)) (Row.chunk 3 fun i => x6 (ix2 r i))
          (fun j => x7 (ix2 0 j)) (fun j => x8 (ix2 0 j)) wa wb (fun k f => x10 (ix2 k f)) (fun f j => x11 (ix2 f j)) q)
      (funext fun k => funext fun j => ld_top x9 k j) (funext fun k => funext fun j => ld_bot x9 k j))
  rw [pay1_apply]
  unfold Row.second Row.modulate
  simp only [pay4_apply, pay3_apply, e1, e2, e3, e4]

/-- Context tile `n` at row `p` is the second half at that token. -/
theorem ctxTile_apply (c : Dev nD) (n : Fin 8) (p : Fin 512) (q : Fin 1024) :
    ctxTile m c n (ix2 p q)
      = Row.token (fun j => m ((c : Thread nD τ).loc main_arg0) (ix3 ⟨(512 * n.val + p.val) / 256, by omega⟩ ⟨(512 * n.val + p.val) % 256, by omega⟩ j))
          (fun j => m ((c : Thread nD τ).loc main_arg2) (ix3 ⟨(512 * n.val + p.val) / 256, by omega⟩ ⟨(512 * n.val + p.val) % 256, by omega⟩ j))
          (fun j => m ((c : Thread nD τ).loc main_arg4) (ix3 ⟨(512 * n.val + p.val) / 256, by omega⟩ ⟨(512 * n.val + p.val) % 256, by omega⟩ j))
          (fun j => m ((c : Thread nD τ).loc main_arg6) (ix2 0 j))
          (m ((c : Thread nD τ).loc main_arg7)) (m ((c : Thread nD τ).loc main_arg8)) (m ((c : Thread nD τ).loc main_arg9)) (m ((c : Thread nD τ).loc main_arg10)) (m ((c : Thread nD τ).loc main_arg11)) q := by
  have ht : (ctxPt n).val = n.val := rfl
  unfold ctxTile ctxAt Row.token
  rw [tileA_apply (ctxPt n) n.isLt _ _ _ _ _ _ _ _ _ _ 0 (by rfl)]
  simp only [iblk0_apply m c (ctxPt n) n ht, iblk2_apply m c (ctxPt n) n ht, iblk4_apply m c (ctxPt n) n ht,
    iblk6_apply, iblk7_apply, iblk8_apply, iblk9_apply, iblk10_apply, iblk11_apply]

/-- Latent tile `n` at row `p` is the second half at that token. -/
theorem latTile_apply (c : Dev nD) (n : Fin 4) (p : Fin 512) (q : Fin 1024) :
    latTile m c n (ix2 p q)
      = Row.token (fun j => m ((c : Thread nD τ).loc main_arg1) (ix3 ⟨(512 * n.val + p.val) / 1024, by omega⟩ ⟨(512 * n.val + p.val) % 1024, by omega⟩ j))
          (fun j => m ((c : Thread nD τ).loc main_arg3) (ix3 ⟨(512 * n.val + p.val) / 1024, by omega⟩ ⟨(512 * n.val + p.val) % 1024, by omega⟩ j))
          (fun j => m ((c : Thread nD τ).loc main_arg5) (ix3 ⟨(512 * n.val + p.val) / 1024, by omega⟩ ⟨(512 * n.val + p.val) % 1024, by omega⟩ j))
          (fun j => m ((c : Thread nD τ).loc main_arg6) (ix2 ⟨1 + n.val / 2, by omega⟩ j))
          (m ((c : Thread nD τ).loc main_arg7)) (m ((c : Thread nD τ).loc main_arg8)) (m ((c : Thread nD τ).loc main_arg9)) (m ((c : Thread nD τ).loc main_arg10)) (m ((c : Thread nD τ).loc main_arg11)) q := by
  have ht : (latPt n).val = 8 + n.val := rfl
  unfold latTile latAt Row.token
  rw [tileB_apply (latPt n) (Nat.le_add_right 8 n.val) _ _ _ _ _ _ _ _ _ _ ⟨1 + n.val / 2, by omega⟩ (by show 1 + n.val / 2 = 1 + (8 + n.val - 8) / 2; omega)]
  simp only [iblk1_apply m c (latPt n) n ht, iblk3_apply m c (latPt n) n ht, iblk5_apply m c (latPt n) n ht,
    iblk6_apply, iblk7_apply, iblk8_apply, iblk9_apply, iblk10_apply, iblk11_apply]

end Cert.KernelIdeal.OutFf

end
-- ==== Proof.OutFf.Frame.lean ====
module

public import proofs.«01_k».proof.Proof.OutFf.Data

@[expose] public section

set_option maxRecDepth 16384

noncomputable section

namespace Cert.KernelIdeal.OutFf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2400000 in
/-- The body at any point: a context point fills the context tile and leaves the latent output's buffer, a latent point the
    converse; at point 11 the context buffer, idle but written back, holds tile 7. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11]
  rw [show (dats m 0 c).Φ t.succ = (dats m 0 c).Φ t.castSucc from rfl,
    show (dats m 0 c).owesAt () t.succ = (dats m 0 c).owesAt () t.castSucc from rfl]
  have hN : t.val < 12 := lt_of_lt_of_eq t.isLt N_0
  by_cases h0 : t.val < 8
  · rw [leaves_12_ctx m c t h0, leaves_13_ctx m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) _ _ _ _ _ _ _ _ _ _ _ _ _ _ _ _ _ _ _ _ _ _ _ _ _ _ _ _ ((ctx_iff t).mpr h0) (fun h => by have := (lat_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 13 t d13)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · have h1 : 8 ≤ t.val := by omega
    rw [leaves_13_lat m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB c (grid0.coords t) _ _ _ _ _ _ _ _ _ _ _ _ _ _ _ _ _ _ _ _ _ _ _ _ _ _ _ _ (fun h => h0 ((ctx_iff t).mp h)) ((lat_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iapply (leaves_12_lat m c t h1 d12); iexact H12
    iexact H13

/-- The body table's row at point `t`'s slots is the body. -/
theorem row_eq (t : Fin cfg0.N) :
    defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- Every execution ends with the arrays the proof data computes and with all counters at zero. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

end Cert.KernelIdeal.OutFf

end
-- ==== Proof.OutFf.Final.lean ====
module

public import proofs.«01_k».proof.Proof.OutFf.Tile
public import proofs.«01_k».proof.Proof.OutFf.Frame

/-! The two result arrays at the end of the run: the tiles written back cover each of them. -/

@[expose] public section

set_option maxRecDepth 16384

noncomputable section

namespace Cert.KernelIdeal.OutFf

open Idealize.ShloMosaic Idealize.ShloMosaic.TcCoe
open Cert.KernelIdeal.Gen

variable (m : (ℓ : Loc nD τ sig) → Buf (Elt Ideal) ℓ)

/-- Row `r` of the context result: the second half at that token. -/
def ctxRow (c : Dev nD) (r : Fin 4096) : Fin 1024 → EReal :=
  Row.token (fun j => m ((c : Thread nD τ).loc main_arg0) (ix3 ⟨r.val / 256, by omega⟩ ⟨r.val % 256, by omega⟩ j))
    (fun j => m ((c : Thread nD τ).loc main_arg2) (ix3 ⟨r.val / 256, by omega⟩ ⟨r.val % 256, by omega⟩ j))
    (fun j => m ((c : Thread nD τ).loc main_arg4) (ix3 ⟨r.val / 256, by omega⟩ ⟨r.val % 256, by omega⟩ j))
    (fun j => m ((c : Thread nD τ).loc main_arg6) (ix2 0 j))
    (m ((c : Thread nD τ).loc main_arg7)) (m ((c : Thread nD τ).loc main_arg8)) (m ((c : Thread nD τ).loc main_arg9)) (m ((c : Thread nD τ).loc main_arg10)) (m ((c : Thread nD τ).loc main_arg11))

/-- The context result. -/
def ctxOut (c : Dev nD) : Buf (Elt Ideal) ((c : Thread nD τ).loc main_v15_0) :=
  fun i => ctxRow m c (i 0) (i 1)

/-- A context tile is its rows of the result. -/
theorem ctxTile_row (c : Dev nD) (n : Fin 8) (p : Fin 512) (q : Fin 1024) :
    ctxTile m c n (ix2 p q) = ctxRow m c ⟨512 * n.val + p.val, by omega⟩ q := by
  rw [ctxTile_apply]
  unfold ctxRow
  rfl

/-- The block written back at a point. -/
theorem index12 : ∀ t : Fin cfg0.N, t.val < 7 ∨ t.val = 11 → win0_12.index t 0 = min t.val 7 ∧ win0_12.index t 1 = 0 :=
  (by decide +kernel : ∀ t : Fin grid0.N, t.val < 7 ∨ t.val = 11 → win0_12.index t 0 = min t.val 7 ∧ win0_12.index t 1 = 0)

/-- Each write-back writes its block of the result. -/
theorem flushed12 (c : Dev nD) (t : Fin cfg0.N) (hf : (cfg0.win 12).flush t = true) :
    (dats m 0 c).flushed 12 t = ((cfg0.win 12).blk t).view.read (Elt Ideal) (ctxOut m c) := by
  rw [flush12] at hf
  obtain ⟨h0, h1⟩ := index12 t (of_decide_eq_true hf)
  show (cfg0.win 12).cut (grid0.coords t) ((dats m 0 c).after 12 t) = _
  rw [after_12]
  funext y
  rw [View.read_apply]
  have hy : (y : S512x1024.Idx) = ix2 (y 0) (y 1) := eq_ix2 y
  refine Eq.trans (show _ = ctxTile m c (ctxIx t) (ix2 (y 0) (y 1)) from congrArg (ctxTile m c (ctxIx t)) hy) ?_
  refine (ctxTile_row m c (ctxIx t) (y 0) (y 1)).trans ?_
  have hi : (ctxIx t).val = min t.val 7 := rfl
  have e : ((cfg0.win 12).blk t).view.emb y = (ix2 ⟨512 * (ctxIx t).val + (y 0).val, by have := (ctxIx t).isLt; have : (y 0).val < 512 := (y 0).isLt; omega⟩ (y 1) : S4096x1024.Idx) := by
    funext a
    apply Fin.ext
    match a with
    | ⟨0, _⟩ => show win0_12.index t 0 * 512 + 1 * (y 0).val = 512 * (ctxIx t).val + (y 0).val; rw [h0, hi]; omega
    | ⟨1, _⟩ => show win0_12.index t 1 * 1024 + 1 * (y 1).val = (y 1).val; rw [h1]; omega
  rw [e]
  rfl

/-- The context result array ends holding it. -/
theorem final12 (c : Dev nD) : (dats m 0 c).arrAt 12 cfg0.N = ctxOut m c :=
  (dats m 0 c).arrAt_eq_of_cover 12 (ctxOut m c) (flushed12 m c) fun i => by
    have hr : (i 0 : Nat) < 4096 := (i 0).isLt
    have hq : (i 1 : Nat) < 1024 := (i 1).isLt
    have hb : (if (i 0 : Nat) / 512 < 7 then (i 0 : Nat) / 512 else 11) < 12 := by split <;> omega
    refine ⟨⟨if (i 0 : Nat) / 512 < 7 then (i 0 : Nat) / 512 else 11, lt_of_lt_of_eq hb (show 12 = cfg0.N from N_0.symm)⟩, ?_, ?_⟩
    all_goals generalize ht : (⟨if (i 0 : Nat) / 512 < 7 then (i 0 : Nat) / 512 else 11, lt_of_lt_of_eq hb (show 12 = cfg0.N from N_0.symm)⟩ : Fin cfg0.N) = t
    all_goals have hv : t.val = if (i 0 : Nat) / 512 < 7 then (i 0 : Nat) / 512 else 11 := by rw [← ht]
    all_goals have hc : t.val < 7 ∨ t.val = 11 := by rw [hv]; split <;> omega
    all_goals have hm : min t.val 7 = (i 0 : Nat) / 512 := by rw [hv]; split <;> omega
    · rw [flush12]
      exact decide_eq_true hc
    · obtain ⟨h0, h1⟩ := index12 t hc
      show i ∈ ((View.whole main_v15_0).slice (win0_12.rect t)).set
      rw [View.set_slice_whole, Rect.mem_set_unit]
      intro a
      match a with
      | ⟨0, _⟩ =>
        show win0_12.index t 0 * 512 ≤ (i 0 : Nat) ∧ (i 0 : Nat) < win0_12.index t 0 * 512 + 512
        rw [h0, hm]; omega
      | ⟨1, _⟩ =>
        show win0_12.index t 1 * 1024 ≤ (i 1 : Nat) ∧ (i 1 : Nat) < win0_12.index t 1 * 1024 + 1024
        rw [h1]; omega

/-- Row `r` of the latent result: the second half at that token. -/
def latRow (c : Dev nD) (r : Fin 2048) : Fin 1024 → EReal :=
  Row.token (fun j => m ((c : Thread nD τ).loc main_arg1) (ix3 ⟨r.val / 1024, by omega⟩ ⟨r.val % 1024, by omega⟩ j))
    (fun j => m ((c : Thread nD τ).loc main_arg3) (ix3 ⟨r.val / 1024, by omega⟩ ⟨r.val % 1024, by omega⟩ j))
    (fun j => m ((c : Thread nD τ).loc main_arg5) (ix3 ⟨r.val / 1024, by omega⟩ ⟨r.val % 1024, by omega⟩ j))
    (fun j => m ((c : Thread nD τ).loc main_arg6) (ix2 ⟨1 + r.val / 1024, by omega⟩ j))
    (m ((c : Thread nD τ).loc main_arg7)) (m ((c : Thread nD τ).loc main_arg8)) (m ((c : Thread nD τ).loc main_arg9)) (m ((c : Thread nD τ).loc main_arg10)) (m ((c : Thread nD τ).loc main_arg11))

/-- The latent result. -/
def latOut (c : Dev nD) : Buf (Elt Ideal) ((c : Thread nD τ).loc main_v15_1) :=
  fun i => latRow m c (i 0) (i 1)

/-- A latent tile is its rows of the result. -/
theorem latTile_row (c : Dev nD) (n : Fin 4) (p : Fin 512) (q : Fin 1024) :
    latTile m c n (ix2 p q) = latRow m c ⟨512 * n.val + p.val, by omega⟩ q := by
  rw [latTile_apply]
  unfold latRow
  have e : (⟨1 + n.val / 2, by omega⟩ : Fin 8) = ⟨1 + (512 * n.val + p.val) / 1024, by omega⟩ :=
    Fin.ext (by show 1 + n.val / 2 = 1 + (512 * n.val + p.val) / 1024; omega)
  rw [e]

/-- The block written back at a point. -/
theorem index13 : ∀ t : Fin cfg0.N, 8 ≤ t.val → win0_13.index t 0 = t.val - 8 ∧ win0_13.index t 1 = 0 :=
  (by decide +kernel : ∀ t : Fin grid0.N, 8 ≤ t.val → win0_13.index t 0 = t.val - 8 ∧ win0_13.index t 1 = 0)

/-- Each write-back writes its block of the result. -/
theorem flushed13 (c : Dev nD) (t : Fin cfg0.N) (hf : (cfg0.win 13).flush t = true) :
    (dats m 0 c).flushed 13 t = ((cfg0.win 13).blk t).view.read (Elt Ideal) (latOut m c) := by
  rw [flush13] at hf
  obtain ⟨h0, h1⟩ := index13 t (of_decide_eq_true hf)
  show (cfg0.win 13).cut (grid0.coords t) ((dats m 0 c).after 13 t) = _
  rw [after_13]
  funext y
  rw [View.read_apply]
  have hy : (y : S512x1024.Idx) = ix2 (y 0) (y 1) := eq_ix2 y
  refine Eq.trans (show _ = latTile m c (latIx t) (ix2 (y 0) (y 1)) from congrArg (latTile m c (latIx t)) hy) ?_
  refine (latTile_row m c (latIx t) (y 0) (y 1)).trans ?_
  have hi : (latIx t).val = t.val - 8 := rfl
  have e : ((cfg0.win 13).blk t).view.emb y = (ix2 ⟨512 * (latIx t).val + (y 0).val, by have := (latIx t).isLt; have : (y 0).val < 512 := (y 0).isLt; omega⟩ (y 1) : S2048x1024.Idx) := by
    funext a
    apply Fin.ext
    match a with
    | ⟨0, _⟩ => show win0_13.index t 0 * 512 + 1 * (y 0).val = 512 * (latIx t).val + (y 0).val; rw [h0, hi]; omega
    | ⟨1, _⟩ => show win0_13.index t 1 * 1024 + 1 * (y 1).val = (y 1).val; rw [h1]; omega
  rw [e]
  rfl

/-- The latent result array ends holding it. -/
theorem final13 (c : Dev nD) : (dats m 0 c).arrAt 13 cfg0.N = latOut m c :=
  (dats m 0 c).arrAt_eq_of_cover 13 (latOut m c) (flushed13 m c) fun i => by
    have hr : (i 0 : Nat) < 2048 := (i 0).isLt
    have hq : (i 1 : Nat) < 1024 := (i 1).isLt
    have hb : 8 + (i 0 : Nat) / 512 < 12 := by omega
    refine ⟨⟨8 + (i 0 : Nat) / 512, lt_of_lt_of_eq hb (show 12 = cfg0.N from N_0.symm)⟩, ?_, ?_⟩
    all_goals generalize ht : (⟨8 + (i 0 : Nat) / 512, lt_of_lt_of_eq hb (show 12 = cfg0.N from N_0.symm)⟩ : Fin cfg0.N) = t
    all_goals have hv : t.val = 8 + (i 0 : Nat) / 512 := by rw [← ht]
    all_goals have hc : 8 ≤ t.val := by omega
    all_goals have hm : t.val - 8 = (i 0 : Nat) / 512 := by omega
    · rw [flush13]
      exact decide_eq_true hc
    · obtain ⟨h0, h1⟩ := index13 t hc
      show i ∈ ((View.whole main_v15_1).slice (win0_13.rect t)).set
      rw [View.set_slice_whole, Rect.mem_set_unit]
      intro a
      match a with
      | ⟨0, _⟩ =>
        show win0_13.index t 0 * 512 ≤ (i 0 : Nat) ∧ (i 0 : Nat) < win0_13.index t 0 * 512 + 512
        rw [h0, hm]; omega
      | ⟨1, _⟩ =>
        show win0_13.index t 1 * 1024 ≤ (i 1 : Nat) ∧ (i 1 : Nat) < win0_13.index t 1 * 1024 + 1024
        rw [h1]; omega

end Cert.KernelIdeal.OutFf

end
-- ==== Proof.OutFf.RefRow.lean ====
module

public import proofs.«01_k».proof.Proof.OutFf.Row
public import proofs.«01_k».proof.Proof.Gen.ReferenceIdeal.Read

/-! The reference's two results, row by row over the extended reals: each row is `Cert.Row.token` of the arguments. -/

@[expose] public section

set_option maxRecDepth 16384

noncomputable section

namespace Cert.ReferenceIdeal.OutFf

open Idealize.ShloMosaic Idealize.ShloMosaic.TcCoe
open Cert.ReferenceIdeal.Read

/-- A sum of 1024 terms by halves. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

/-- The joined context mixers' first half. -/
theorem ctx_left (x2 x4 : S16x256x512.Idx → EReal) (b : Fin 16) (t : Fin 256) (k : Fin 512) :
    val_main_v13 (F := Ideal) x2 x4 (ix3 b t ⟨k.val, by omega⟩) = x2 (ix3 b t k) := by
  pointwise [val_main_v13]

/-- The joined context mixers' second half. -/
theorem ctx_right (x2 x4 : S16x256x512.Idx → EReal) (b : Fin 16) (t : Fin 256) (k : Fin 512) :
    val_main_v13 (F := Ideal) x2 x4 (ix3 b t ⟨512 + k.val, by omega⟩) = x4 (ix3 b t k) := by
  pointwise [val_main_v13]

/-- The context tokens' first residual. -/
theorem ctx_mix (x0 : S16x256x1024.Idx → EReal) (x2 x4 : S16x256x512.Idx → EReal) (x6 : S8x4096.Idx → EReal) (x9 : S1x1024x1024.Idx → EReal) (b : Fin 16) (t : Fin 256) (j : Fin 1024) :
    val_main_v18 (F := Ideal) x0 x2 x4 x6 x9 (ix3 b t j) = Row.mix (fun j => x0 (ix3 b t j)) (Row.chunk 0 (fun i => x6 (ix2 0 i)))
      (fun k => x2 (ix3 b t k)) (fun k => x4 (ix3 b t k))
      (fun k j => x9 (ix3 0 ⟨k.val, by omega⟩ j)) (fun k j => x9 (ix3 0 ⟨512 + k.val, by omega⟩ j)) j := by
  have e := sum_halves fun k => val_main_v13 (F := Ideal) x2 x4 (ix3 b t k) * x9 (ix3 0 k j)
  simp only [ctx_left, ctx_right] at e
  unfold Row.mix Row.chunk
  rw [← e]
  pointwise [val_main_v18, val_main_v17, val_main_v16, val_main_v15, val_main_v14, val_main_v9, val_main_v5, val_main_v1, val_main_v4]

/-- The context tokens' modulated rows. -/
theorem ctx_modulate (x0 : S16x256x1024.Idx → EReal) (x2 x4 : S16x256x512.Idx → EReal) (x6 : S8x4096.Idx → EReal) (x7 : S1x1024.Idx → EReal) (x9 : S1x1024x1024.Idx → EReal) (b : Fin 16) (t : Fin 256) (j : Fin 1024) :
    val_main_v37 (F := Ideal) x0 x2 x4 x6 x7 x9 (ix3 b t j) = Row.modulate (fun j => val_main_v18 (F := Ideal) x0 x2 x4 x6 x9 (ix3 b t j))
      (fun j => x7 (ix2 0 j)) (Row.chunk 2 (fun i => x6 (ix2 0 i))) (Row.chunk 1 (fun i => x6 (ix2 0 i))) j := by
  unfold Row.modulate Row.norm Row.chunk
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v11, val_main_v10, val_main_v7, val_main_v6, val_main_v0, val_main_v4, val_main_cst, val_main_cst_0, val_main_cst_1, val_main_cst_2]

/-- The joined latent mixers' first half. -/
theorem lat_left (x3 x5 : S2x1024x512.Idx → EReal) (b : Fin 2) (t : Fin 1024) (k : Fin 512) :
    val_main_v67 (F := Ideal) x3 x5 (ix3 b t ⟨k.val, by omega⟩) = x3 (ix3 b t k) := by
  pointwise [val_main_v67]

/-- The joined latent mixers' second half. -/
theorem lat_right (x3 x5 : S2x1024x512.Idx → EReal) (b : Fin 2) (t : Fin 1024) (k : Fin 512) :
    val_main_v67 (F := Ideal) x3 x5 (ix3 b t ⟨512 + k.val, by omega⟩) = x5 (ix3 b t k) := by
  pointwise [val_main_v67]

/-- The latent tokens' first residual. -/
theorem lat_mix (x1 : S2x1024x1024.Idx → EReal) (x3 x5 : S2x1024x512.Idx → EReal) (x6 : S8x4096.Idx → EReal) (x9 : S1x1024x1024.Idx → EReal) (b : Fin 2) (t : Fin 1024) (j : Fin 1024) :
    val_main_v72 (F := Ideal) x1 x3 x5 x6 x9 (ix3 b t j) = Row.mix (fun j => x1 (ix3 b t j)) (Row.chunk 0 (fun i => x6 (ix2 ⟨1 + b.val, by omega⟩ i)))
      (fun k => x3 (ix3 b t k)) (fun k => x5 (ix3 b t k))
      (fun k j => x9 (ix3 0 ⟨k.val, by omega⟩ j)) (fun k j => x9 (ix3 0 ⟨512 + k.val, by omega⟩ j)) j := by
  have e := sum_halves fun k => val_main_v67 (F := Ideal) x3 x5 (ix3 b t k) * x9 (ix3 0 k j)
  simp only [lat_left, lat_right] at e
  unfold Row.mix Row.chunk
  rw [← e]
  pointwise [val_main_v72, val_main_v71, val_main_v70, val_main_v69, val_main_v68, val_main_v63, val_main_v59, val_main_v1, val_main_v58]

/-- The latent tokens' modulated rows. -/
theorem lat_modulate (x1 : S2x1024x1024.Idx → EReal) (x3 x5 : S2x1024x512.Idx → EReal) (x6 : S8x4096.Idx → EReal) (x7 : S1x1024.Idx → EReal) (x9 : S1x1024x1024.Idx → EReal) (b : Fin 2) (t : Fin 1024) (j : Fin 1024) :
    val_main_v91 (F := Ideal) x1 x3 x5 x6 x7 x9 (ix3 b t j) = Row.modulate (fun j => val_main_v72 (F := Ideal) x1 x3 x5 x6 x9 (ix3 b t j))
      (fun j => x7 (ix2 0 j)) (Row.chunk 2 (fun i => x6 (ix2 ⟨1 + b.val, by omega⟩ i))) (Row.chunk 1 (fun i => x6 (ix2 ⟨1 + b.val, by omega⟩ i))) j := by
  unfold Row.modulate Row.norm Row.chunk
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v65, val_main_v64, val_main_v61, val_main_v60, val_main_v0, val_main_v58, val_main_cst_6, val_main_cst_7, val_main_cst_8, val_main_cst_9]

/-- The context tokens' second residual. -/
theorem ctx_second (x0 : S16x256x1024.Idx → EReal) (x2 x4 : S16x256x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (b : Fin 16) (t : Fin 256) (j : Fin 1024) :
    val_main_v44 (F := Ideal) x0 x2 x4 x6 x7 x9 x10 x11 (ix3 b t j) = val_main_v18 (F := Ideal) x0 x2 x4 x6 x9 (ix3 b t j)
      + Row.chunk 3 (fun i => x6 (ix2 0 i)) j * Row.ff (fun j => val_main_v37 (F := Ideal) x0 x2 x4 x6 x7 x9 (ix3 b t j)) (fun k f => x10 (ix3 0 k f)) (fun f j => x11 (ix3 0 f j)) j := by
  unfold Row.ff Row.chunk
  pointwise [val_main_v44, val_main_v43, val_main_v42, val_main_v41, val_main_v40, val_main_v39, val_main_v38, val_main_v12, val_main_v8, val_main_v2, val_main_v3, val_main_call0_v0, val_main_call0_cst, val_main_v4]

/-- The context tokens' last normalisation. -/
theorem ctx_last (x0 : S16x256x1024.Idx → EReal) (x2 x4 : S16x256x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (b : Fin 16) (t : Fin 256) (j : Fin 1024) :
    val_main_v57 (F := Ideal) x0 x2 x4 x6 x7 x8 x9 x10 x11 (ix3 b t j)
      = Row.norm (fun j => val_main_v44 (F := Ideal) x0 x2 x4 x6 x7 x9 x10 x11 (ix3 b t j)) (fun j => x8 (ix1 j)) j := by
  unfold Row.norm
  pointwise [val_main_v57, val_main_v56, val_main_v55, val_main_v54, val_main_v53, val_main_v52, val_main_v51, val_main_v50, val_main_v49, val_main_v48, val_main_v47, val_main_v46, val_main_v45, val_main_cst_3, val_main_cst_4, val_main_cst_5]

/-- The context result's row at a token is the second half at that token. -/
theorem ctx_token (x0 : S16x256x1024.Idx → EReal) (x2 x4 : S16x256x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (b : Fin 16) (t : Fin 256) (j : Fin 1024) :
    val_main_v57 (F := Ideal) x0 x2 x4 x6 x7 x8 x9 x10 x11 (ix3 b t j)
      = Row.token (fun j => x0 (ix3 b t j)) (fun j => x2 (ix3 b t j)) (fun j => x4 (ix3 b t j)) (fun i => x6 (ix2 0 i)) x7 x8 x9 x10 x11 j := by
  unfold Row.token Row.second Row.finish
  have e18 := funext fun j => ctx_mix x0 x2 x4 x6 x9 b t j
  have e37 := funext fun j => ctx_modulate x0 x2 x4 x6 x7 x9 b t j
  rw [e18] at e37
  have e44 := funext fun j => ctx_second x0 x2 x4 x6 x7 x8 x9 x10 x11 b t j
  rw [e37] at e44
  rw [ctx_last, e44]
  exact congrFun (congrArg (fun f => Row.norm f fun j => x8 (ix1 j)) (funext fun j => by rw [ctx_mix])) j

/-- The context result at a row. -/
theorem ctx_out (x0 : S16x256x1024.Idx → EReal) (x2 x4 : S16x256x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (r : Fin 4096) (j : Fin 1024) :
    val_main_v112 (F := Ideal) x0 x2 x4 x6 x7 x8 x9 x10 x11 (ix2 r j)
      = Row.token (fun j => x0 (ix3 ⟨r.val / 256, by omega⟩ ⟨r.val % 256, by omega⟩ j))
          (fun j => x2 (ix3 ⟨r.val / 256, by omega⟩ ⟨r.val % 256, by omega⟩ j))
          (fun j => x4 (ix3 ⟨r.val / 256, by omega⟩ ⟨r.val % 256, by omega⟩ j))
          (fun i => x6 (ix2 0 i)) x7 x8 x9 x10 x11 j := by
  unfold val_main_v112
  refine (shapeCast_apply (s := S16x256x1024) (t := S4096x1024) _ _ _ (ix3 ⟨r.val / 256, by omega⟩ ⟨r.val % 256, by omega⟩ j) ?_).trans ?_
  · rw [Shape.rowMajor_val_three, Shape.rowMajor_val_two]
    show (r.val / 256 * 256 + r.val % 256) * 1024 + j.val = r.val * 1024 + j.val
    omega
  · rw [ctx_token]

/-- The latent tokens' second residual. -/
theorem lat_second (x1 : S2x1024x1024.Idx → EReal) (x3 x5 : S2x1024x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (b : Fin 2) (t : Fin 1024) (j : Fin 1024) :
    val_main_v98 (F := Ideal) x1 x3 x5 x6 x7 x9 x10 x11 (ix3 b t j) = val_main_v72 (F := Ideal) x1 x3 x5 x6 x9 (ix3 b t j)
      + Row.chunk 3 (fun i => x6 (ix2 ⟨1 + b.val, by omega⟩ i)) j * Row.ff (fun j => val_main_v91 (F := Ideal) x1 x3 x5 x6 x7 x9 (ix3 b t j)) (fun k f => x10 (ix3 0 k f)) (fun f j => x11 (ix3 0 f j)) j := by
  unfold Row.ff Row.chunk
  pointwise [val_main_v98, val_main_v97, val_main_v96, val_main_v95, val_main_v94, val_main_v93, val_main_v92, val_main_v66, val_main_v62, val_main_v2, val_main_v3, val_main_call1_v0, val_main_call1_cst, val_main_v58]

/-- The latent tokens' last normalisation. -/
theorem lat_last (x1 : S2x1024x1024.Idx → EReal) (x3 x5 : S2x1024x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (b : Fin 2) (t : Fin 1024) (j : Fin 1024) :
    val_main_v111 (F := Ideal) x1 x3 x5 x6 x7 x8 x9 x10 x11 (ix3 b t j)
      = Row.norm (fun j => val_main_v98 (F := Ideal) x1 x3 x5 x6 x7 x9 x10 x11 (ix3 b t j)) (fun j => x8 (ix1 j)) j := by
  unfold Row.norm
  pointwise [val_main_v111, val_main_v110, val_main_v109, val_main_v108, val_main_v107, val_main_v106, val_main_v105, val_main_v104, val_main_v103, val_main_v102, val_main_v101, val_main_v100, val_main_v99, val_main_cst_10, val_main_cst_11, val_main_cst_12]

/-- The latent result's row at a token is the second half at that token. -/
theorem lat_token (x1 : S2x1024x1024.Idx → EReal) (x3 x5 : S2x1024x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (b : Fin 2) (t : Fin 1024) (j : Fin 1024) :
    val_main_v111 (F := Ideal) x1 x3 x5 x6 x7 x8 x9 x10 x11 (ix3 b t j)
      = Row.token (fun j => x1 (ix3 b t j)) (fun j => x3 (ix3 b t j)) (fun j => x5 (ix3 b t j)) (fun i => x6 (ix2 ⟨1 + b.val, by omega⟩ i)) x7 x8 x9 x10 x11 j := by
  unfold Row.token Row.second Row.finish
  have e18 := funext fun j => lat_mix x1 x3 x5 x6 x9 b t j
  have e37 := funext fun j => lat_modulate x1 x3 x5 x6 x7 x9 b t j
  rw [e18] at e37
  have e44 := funext fun j => lat_second x1 x3 x5 x6 x7 x8 x9 x10 x11 b t j
  rw [e37] at e44
  rw [lat_last, e44]
  exact congrFun (congrArg (fun f => Row.norm f fun j => x8 (ix1 j)) (funext fun j => by rw [lat_mix])) j

/-- The latent result at a row. -/
theorem lat_out (x1 : S2x1024x1024.Idx → EReal) (x3 x5 : S2x1024x512.Idx → EReal) (x6 : S8x4096.Idx → EReal) (x7 : S1x1024.Idx → EReal) (x8 : S1024.Idx → EReal)
    (x9 : S1x1024x1024.Idx → EReal) (x10 : S1x1024x4096.Idx → EReal) (x11 : S1x4096x1024.Idx → EReal) (r : Fin 2048) (j : Fin 1024) :
    val_main_v113 (F := Ideal) x1 x3 x5 x6 x7 x8 x9 x10 x11 (ix2 r j)
      = Row.token (fun j => x1 (ix3 ⟨r.val / 1024, by omega⟩ ⟨r.val % 1024, by omega⟩ j))
          (fun j => x3 (ix3 ⟨r.val / 1024, by omega⟩ ⟨r.val % 1024, by omega⟩ j))
          (fun j => x5 (ix3 ⟨r.val / 1024, by omega⟩ ⟨r.val % 1024, by omega⟩ j))
          (fun i => x6 (ix2 ⟨1 + r.val / 1024, by omega⟩ i)) x7 x8 x9 x10 x11 j := by
  unfold val_main_v113
  refine (shapeCast_apply (s := S2x1024x1024) (t := S2048x1024) _ _ _ (ix3 ⟨r.val / 1024, by omega⟩ ⟨r.val % 1024, by omega⟩ j) ?_).trans ?_
  · rw [Shape.rowMajor_val_three, Shape.rowMajor_val_two]
    show (r.val / 1024 * 1024 + r.val % 1024) * 1024 + j.val = r.val * 1024 + j.val
    omega
  · rw [lat_token]

end Cert.ReferenceIdeal.OutFf

end
-- ==== Proof.OutFf.Claim.lean ====
module

public import proofs.«01_k».proof.Defs
public import proofs.«01_k».proof.Proof.Gen.ReferenceIdeal.Run
public import proofs.«01_k».proof.Proof.OutFf.Final
public import proofs.«01_k».proof.Proof.OutFf.RefRow
public import proofs.«01_k».proof.Proof.Gen.Kernel
public import Idealize.ShloMosaic.Lib.Quiescent

/-! The conjuncts of the claim about the second half of the layer: the three frames and the equality of the results. -/

@[expose] public section

set_option maxRecDepth 16384

noncomputable section

namespace Cert.Proof.OutFf

open Idealize.ShloMosaic Idealize.ShloMosaic.TcCoe Idealize.SL.Sem

/-- Over any float values: the kernel runs, keeps its arguments and leaves every counter at zero. -/
theorem kept {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) ∧ r.2.sem = fun _ => 0) :=
  (θ_run Cert.KernelIdeal.defs _ _).mono (fun _ h => ⟨h.1, h.2.2⟩)
    (θ_run_and (Cert.KernelIdeal.Gen.frame_of m g (Cert.KernelIdeal.OutFf.dats m) (Cert.KernelIdeal.OutFf.A_eq m)
      ((θ_run Cert.KernelIdeal.defs _ _).mono (fun _ h => h.1) (Cert.KernelIdeal.OutFf.run m g))) (Cert.KernelIdeal.OutFf.run m g))

/-- The idealized kernel's frame. -/
theorem frame_PI : Cert.quiescent_KernelIdeal := fun m g _ => kept m g

attribute [local instance] Cert.Kernel.Gen.facts

/-- The kernel's body table is the idealized kernel's: the two programs have the same text. -/
theorem bodies_eq : Cert.Kernel.defs₀ (F := Bits) = Cert.KernelIdeal.defs₀ (F := Bits) :=
  congrArg Defs.onTc (funext fun l => funext fun a => by
    match l, a with
    | 0, (t, s) => rfl
    | ⟨_ + 1, h⟩, _ => exact absurd h (Nat.not_lt.2 (Nat.le_add_left _ _)))

/-- So is the whole table. -/
theorem table_eq : Cert.Kernel.defs (F := Bits) = Cert.KernelIdeal.defs (F := Bits) :=
  congrArg (Pipeline.defs Cert.Kernel.pcfgs) bodies_eq

/-- The kernel's frame. -/
theorem frame_P : Cert.quiescent_Kernel (hKernel := Cert.Kernel.Gen.facts) := fun m g _ => by
  rw [table_eq]; exact kept (F := Bits) m g

/-- The reference runs and keeps its arguments; it declares no semaphore. -/
theorem frame_RI : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The two programs' results agree. -/
theorem algebraic : Cert.algebraic_KernelIdeal_ReferenceIdeal := by
  intro m g m' g' _ hagree
  refine ⟨fun c => Cert.KernelIdeal.OutFf.ctxOut m c, fun c => Cert.KernelIdeal.OutFf.latOut m c,
    (θ_run Cert.KernelIdeal.defs _ _).mono (fun _ h c => ⟨((h.2.1 c).1 12).trans (Cert.KernelIdeal.OutFf.final12 m c),
      ((h.2.1 c).1 13).trans (Cert.KernelIdeal.OutFf.final13 m c), h.1 c⟩) (θ_run_and (Cert.KernelIdeal.Gen.frame_of m g (Cert.KernelIdeal.OutFf.dats m) (Cert.KernelIdeal.OutFf.A_eq m)
      ((θ_run Cert.KernelIdeal.defs _ _).mono (fun _ h => h.1) (Cert.KernelIdeal.OutFf.run m g))) (Cert.KernelIdeal.OutFf.run m g)),
    (θ_run Cert.ReferenceIdeal.defs _ _).mono (fun _ h c => ⟨(h c).1.trans ?_, (h c).2.1.trans ?_, (h c).2.2⟩)
      (Cert.ReferenceIdeal.Value.run m' g')⟩
  · rw [Cert.ReferenceIdeal.Read.val_main_v112_eq]
    obtain ⟨a0, a1, a2, a3, a4, a5, a6, a7, a8, a9, a10, a11⟩ := hagree c
    rw [a0, a2, a4, a6, a7, a8, a9, a10, a11]
    funext i
    rw [eq_ix2 i]
    exact Cert.ReferenceIdeal.OutFf.ctx_out _ _ _ _ _ _ _ _ _ (i 0) (i 1)
  · rw [Cert.ReferenceIdeal.Read.val_main_v113_eq]
    obtain ⟨a0, a1, a2, a3, a4, a5, a6, a7, a8, a9, a10, a11⟩ := hagree c
    rw [a1, a3, a5, a6, a7, a8, a9, a10, a11]
    funext i
    rw [eq_ix2 i]
    exact Cert.ReferenceIdeal.OutFf.lat_out _ _ _ _ _ _ _ _ _ (i 0) (i 1)

end Cert.Proof.OutFf

end
-- ==== Proof.InProj.Model.lean ====
module

public import proofs.«01_k».proof.Proof.OutFf.Row

/-! One token of the input projection, as a function of the token, its conditioning vector and the weights: what both
programs are shown to compute, row by row, over the extended reals. -/

@[expose] public section

noncomputable section

namespace Cert.Row

open Idealize.ShloMosaic

/-- A number times its logistic function. -/
def silu (x : EReal) : EReal :=
  x * Ideal.div (Ideal.ofBits .f32 0x3F800000#32) (Ideal.ofBits .f32 0x3F800000#32 + Ideal.exp (-x))

/-- Column `j` of the modulation row of the conditioning vector `u`. -/
def ada (u : Fin 1024 → EReal) (wa : (⟨3, ![1, 1024, 6144]⟩ : Shape).Idx → EReal) (b : (⟨2, ![1, 6144]⟩ : Shape).Idx → EReal)
    (j : Fin 6144) : EReal :=
  (∑ k : Fin 1024, silu (u k) * wa (ix3 0 k j)) + b (ix2 0 j)

/-- The token's row before the projection: normalised, then modulated by the row's first two parts (shift, scale). -/
def hidden (x u : Fin 1024 → EReal) (wa : (⟨3, ![1, 1024, 6144]⟩ : Shape).Idx → EReal) (b : (⟨2, ![1, 6144]⟩ : Shape).Idx → EReal)
    (nw : (⟨2, ![1, 1024]⟩ : Shape).Idx → EReal) : Fin 1024 → EReal :=
  modulate x (fun j => nw (ix2 0 j)) (fun j => ada u wa b ⟨1024 + j.val, by omega⟩) (fun j => ada u wa b ⟨j.val, by omega⟩)

/-- Column `n` of a row's projection. -/
def proj (h : Fin 1024 → EReal) (w : (⟨3, ![1, 1024, 3120]⟩ : Shape).Idx → EReal) (n : Fin 3120) : EReal :=
  ∑ k : Fin 1024, h k * w (ix3 0 k n)

/-- The columns kept in f32, in the order the first result stores them (the last eighty hold zero). -/
def colF (p : Fin 3120 → EReal) (j : Fin 1152) : EReal :=
  if h0 : j.val < 512 then p ⟨j.val, by omega⟩
  else if h1 : j.val < 1024 then p ⟨1056 + j.val, by omega⟩
  else if h2 : j.val < 1056 then p ⟨512 + j.val, by omega⟩
  else if h3 : j.val < 1072 then p ⟨2048 + j.val, by omega⟩
  else 0

/-- The columns stored in bf16, in the order the second result stores them. -/
def colH (p : Fin 3120 → EReal) (j : Fin 2048) : EReal :=
  if h0 : j.val < 1024 then p ⟨512 + j.val, by omega⟩ else p ⟨1056 + j.val, by omega⟩

end Cert.Row

end
-- ==== Proof.InProj.Setup.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

/-!
What every point of the input projection's call shares: its launch, the conditions its body branches on, and the ring
through which it reads the tokens. The ring streams TWO arrays, the context tokens (blocks 0 to 7) and then the latent
tokens (blocks 8 to 11), through four slots, three blocks ahead.
-/

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

set_option maxHeartbeats 800000 in
/-- The host operations, then the region. -/
theorem host (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain
/-- Window 0 holds its block of the array at every point. -/
theorem staged0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block of the array at every point. -/
theorem staged1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block of the array at every point. -/
theorem staged2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block of the array at every point. -/
theorem staged3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block of the array at every point. -/
theorem staged4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 holds its block of the array at every point. -/
theorem staged5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- A run that ends in the region's post leaves the eight arguments as they were. -/
theorem unchanged_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h
/-! ## The body's branch conditions -/

abbrev cond0_0 (i : grid0.Coords) : Prop := k0_cond1 i = 1#1
/-- It holds at the first point only. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

abbrev cond0_1 (i : grid0.Coords) : Prop := k0_cond2 = 1#1
/-- It holds at every point. -/
theorem hcond0_1 : ∀ t : Fin cfg0.N, cond0_1 (grid0.coords t) :=
  (by decide +kernel : ∀ t : Fin grid0.N, cond0_1 (grid0.coords t))

abbrev cond0_2 (i : grid0.Coords) : Prop := k0_cond3 = 1#1
/-- It holds at no point. -/
theorem hcond0_2 : ∀ t : Fin cfg0.N, ¬cond0_2 (grid0.coords t) :=
  (by decide +kernel : ∀ t : Fin grid0.N, ¬cond0_2 (grid0.coords t))

abbrev cond0_3 (i : grid0.Coords) : Prop := k0_cond4 = 1#1
/-- It holds at every point. -/
theorem hcond0_3 : ∀ t : Fin cfg0.N, cond0_3 (grid0.coords t) :=
  (by decide +kernel : ∀ t : Fin grid0.N, cond0_3 (grid0.coords t))

abbrev cond0_4 (i : grid0.Coords) : Prop := k0_cond5 = 1#1
/-- It holds at no point. -/
theorem hcond0_4 : ∀ t : Fin cfg0.N, ¬cond0_4 (grid0.coords t) :=
  (by decide +kernel : ∀ t : Fin grid0.N, ¬cond0_4 (grid0.coords t))

abbrev cond0_5 (i : grid0.Coords) : Prop := k0_cond6 = 1#1
/-- It holds at every point. -/
theorem hcond0_5 : ∀ t : Fin cfg0.N, cond0_5 (grid0.coords t) :=
  (by decide +kernel : ∀ t : Fin grid0.N, cond0_5 (grid0.coords t))

abbrev cond0_6 (i : grid0.Coords) : Prop := k0_cond7 = 1#1
/-- It holds at no point. -/
theorem hcond0_6 : ∀ t : Fin cfg0.N, ¬cond0_6 (grid0.coords t) :=
  (by decide +kernel : ∀ t : Fin grid0.N, ¬cond0_6 (grid0.coords t))

abbrev cond0_7 (i : grid0.Coords) : Prop := k0_cond8 i = 1#1
/-- It holds at the points before point 9. -/
theorem hcond0_7 : ∀ t : Fin cfg0.N, cond0_7 (grid0.coords t) ↔ t.val < 9 :=
  (by decide +kernel : ∀ t : Fin grid0.N, cond0_7 (grid0.coords t) ↔ t.val < 9)

abbrev cond0_8 (i : grid0.Coords) : Prop := k0_cond9 i = 1#1
/-- It holds at the points before point 5. -/
theorem hcond0_8 : ∀ t : Fin cfg0.N, cond0_8 (grid0.coords t) ↔ t.val < 5 :=
  (by decide +kernel : ∀ t : Fin grid0.N, cond0_8 (grid0.coords t) ↔ t.val < 5)

abbrev cond0_9 (i : grid0.Coords) : Prop := k0_cond10 i = 1#1
/-- It holds at the points from point 5 on. -/
theorem hcond0_9 : ∀ t : Fin cfg0.N, cond0_9 (grid0.coords t) ↔ 5 ≤ t.val :=
  (by decide +kernel : ∀ t : Fin grid0.N, cond0_9 (grid0.coords t) ↔ 5 ≤ t.val)

abbrev cond0_10 (i : grid0.Coords) : Prop := (Scalar.cmpi .ne (Scalar.extui (Scalar.cmpi .eq (BitVec.ofNat 32 (i 0).val) 0#32)) 0#32) = 1#1
/-- It holds at the first point only. -/
theorem hcond0_10 : ∀ t : Fin cfg0.N, cond0_10 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_10, e0]
    word_cmp
   : ∀ t : Fin grid0.N, cond0_10 (grid0.coords t) ↔ t.val % 12 = 0)

abbrev cond0_11 (i : grid0.Coords) : Prop := k0_cond12 i = 1#1
/-- It holds at the points before point 8. -/
theorem hcond0_11 : ∀ t : Fin cfg0.N, cond0_11 (grid0.coords t) ↔ t.val < 8 :=
  (by decide +kernel : ∀ t : Fin grid0.N, cond0_11 (grid0.coords t) ↔ t.val < 8)

abbrev cond0_12 (i : grid0.Coords) : Prop := k0_cond13 i = 1#1
/-- It holds at the points from point 8 on. -/
theorem hcond0_12 : ∀ t : Fin cfg0.N, cond0_12 (grid0.coords t) ↔ 8 ≤ t.val :=
  (by decide +kernel : ∀ t : Fin grid0.N, cond0_12 (grid0.coords t) ↔ 8 ≤ t.val)

/-- A staging buffer of output window 6. -/
abbrev V06 : View sig .tc .vmem S512x1152 .f32 := (Memref.whole cc0_stg6_0 : Memref sig .tc .vmem S512x1152 .f32).view
/-- A staging buffer of output window 7. -/
abbrev V07 : View sig .tc .vmem S512x2048 .bf16 := (Memref.whole cc0_stg7_0 : Memref sig .tc .vmem S512x2048 .bf16).view
/-- The windows' staging buffers at a point. -/
abbrev ms0_0 (t : Fin cfg0.N) : Memref sig .tc .vmem S1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3120x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1152 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3200x1024 .bf16 := Memref.whole cc0_scratch0
abbrev scM0_1 : Memref sig .tc .vmem S8x2048 .f32 := Memref.whole cc0_scratch1
abbrev scM0_2 : Memref sig .tc .vmem S4x512x1024 .f32 := Memref.whole cc0_scratch2
/-- The two arrays of tokens, left in HBM: the context tokens and the latent tokens. -/
abbrev hbC : Memref sig .tc .hbm S4096x1024 .f32 := Memref.whole main_v0
abbrev hbL : Memref sig .tc .hbm S2048x1024 .f32 := Memref.whole main_v1
/-- A buffer's contents, and the buffer held whole. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own four transfer cells. -/
abbrev osem : Fin 4 → SemLoc sig := fun j => (![SemLoc.dma 10, SemLoc.dma 11, SemLoc.dma 12, SemLoc.dma 13] : Fin 4 → SemLoc sig) j
theorem ownSem : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem [0, 1, 2, 3] (by decide) (by decide)]; rfl
/-- The arrays the body moves itself. -/
def moved : Finset (Ref sig .tc) := {main_v0, main_v1}
theorem moved_sub : moved ⊆ Pipeline.restRefs sig spec0 := by decide
theorem movedPts_eq (c : Dev nD) :
    (bigSep moved (fun b => ((c : Thread nD τ).loc b) ↦{fullShare} V m c b) : sProp 𝕄) = iprop(hbPt c hbC (V m c main_v0) ∗ hbPt c hbL (V m c main_v1)) := by
  rw [BI.bigSep_eq_bigSepL_of_eq [main_v0, main_v1] (by decide) (by decide)]; rfl
/-- What the launch hands the body beside the windows. -/
theorem handed_eq (c : Dev nD) :
    (Pipeline.ΦD osem spec0 moved (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt c hbC (V m c main_v0) ∗ hbPt c hbL (V m c main_v1))) := by
  rw [Pipeline.ΦD_eq, scopedRest0_eq, ownSems_eq, movedPts_eq]; simp only [scM0_0, scM0_1, scM0_2, owns_whole]; try rfl

/-! ## The ring -/

instance : NeZero grid0.N := ⟨by rw [N_0]; decide⟩
theorem inb_slot (s : Fin 4) : ∀ a, (![s.val, 0, 0] : Fin 3 → Nat) a + S1x512x1024.size a ≤ S4x512x1024.size a := by
  have := s.isLt; intro a; fin_cases a <;> simp <;> omega
theorem inb_srcC (b : Fin 12) : ∀ a, (![512 * (b.val % 8), 0] : Fin 2 → Nat) a + S512x1024.size a ≤ S4096x1024.size a := by
  have := Nat.mod_lt b.val (show 0 < 8 by decide); intro a; fin_cases a <;> simp <;> omega
theorem inb_srcL (b : Fin 12) : ∀ a, (![512 * ((b.val - 8) % 4), 0] : Fin 2 → Nat) a + S512x1024.size a ≤ S2048x1024.size a := by
  have := Nat.mod_lt (b.val - 8) (show 0 < 4 by decide); intro a; fin_cases a <;> simp <;> omega
theorem inb_cell (s : Fin 4) : ∀ a, (![s.val] : Fin 1 → Nat) a + S1.size a ≤ S4.size a := by
  have := s.isLt; intro a; fin_cases a <;> simp <;> omega
/-- Slot `s`; block `b` of the context tokens (`b < 8`) and of the latent tokens (`8 ≤ b`); cell `s`. -/
def rslot (s : Fin 4) : Memref sig .tc .vmem S512x1024 .f32 :=
  (scM0_2.slice (Rect.unit (s := S4x512x1024) ![s.val, 0, 0] S1x512x1024.size (inb_slot s)) (fun _ => rfl)).squeeze S512x1024 squeezes_S1x512x1024_S512x1024
def srcC (b : Fin 12) : Memref sig .tc .hbm S512x1024 .f32 :=
  hbC.slice (Rect.unit (s := S4096x1024) ![512 * (b.val % 8), 0] S512x1024.size (inb_srcC b)) (fun _ => rfl)
def srcL (b : Fin 12) : Memref sig .tc .hbm S512x1024 .f32 :=
  hbL.slice (Rect.unit (s := S2048x1024) ![512 * ((b.val - 8) % 4), 0] S512x1024.size (inb_srcL b)) (fun _ => rfl)
def cellA (s : Fin 4) : DmaSems sig S_ := (cc0_scratch3.slice (Rect.unit (s := S4) ![s.val] S1.size (inb_cell s))).squeeze S_ squeezes_S1_S_
abbrev cellR (s : Fin 4) : SemLoc sig := SemLoc.dma (cellA s).sem
theorem cellR_0 : cellR 0 = SemLoc.dma 10 := by decide
theorem cellR_1 : cellR 1 = SemLoc.dma 11 := by decide
theorem cellR_2 : cellR 2 = SemLoc.dma 12 := by decide
theorem cellR_3 : cellR 3 = SemLoc.dma 13 := by decide

section Families
variable (c : Dev nD) (WC : HbBuf (F := F) c hbC) (WL : HbBuf (F := F) c hbL)
/-- Each array is lent by share, a part of it to each slot. -/
abbrev qs (s : Fin 4) : PosShare TreeShare := if s.val = 0 then fullShare.left else if s.val = 1 then fullShare.right.left else if s.val = 2 then fullShare.right.right.left else fullShare.right.right.right
abbrev slotP (s : Fin 4) (f : HbBuf (F := F) c (rslot s)) : sProp 𝕄 := (rslot s).view.loc (c : Thread nD τ) ↦[(rslot s).view.set]{fullShare} f
abbrev cellP (s : Fin 4) : sProp 𝕄 := semVal ((c : Thread nD τ), cellR s) 0
/-- Block `b`'s part of slot `s`'s share of the array, the rest of that share, and the share whole. -/
abbrev srcPC (s : Fin 4) (b : Fin 12) : sProp 𝕄 := (srcC b).view.loc (c : Thread nD τ) ↦[(srcC b).view.set]{qs s} WC
def restC (s : Fin 4) (b : Fin 12) : sProp 𝕄 := ((c : Thread nD τ).loc main_v0) ↦[Finset.univ \ (srcC b).view.set]{qs s} WC
abbrev wholeC (s : Fin 4) : sProp 𝕄 := ((c : Thread nD τ).loc main_v0) ↦[Finset.univ]{qs s} WC
/-- Slot `s` once block `b` has landed in it, and the transfer of that block in flight. -/
abbrev landedC (s : Fin 4) (b : Fin 12) (f : HbBuf (F := F) c (rslot s)) : HbBuf (F := F) c (rslot s) :=
  (rslot s).view.writes (Elt F) f [⟨Rect.whole S512x1024, ReadAs.same.apply ((srcC b).view.read (Elt F) WC)⟩]
abbrev flightC (s : Fin 4) (b : Fin 12) (f : HbBuf (F := F) c (rslot s)) : sProp 𝕄 :=
  Transfers.Flight countersEmb (c : Thread nD τ) (cellR s) default ((rslot s).view.amount (cellR s))
    iprop(slotP c s (landedC c WC s b f) ∗ srcPC c WC s b)
/-- Block `b`'s part of slot `s`'s share of the array, the rest of that share, and the share whole. -/
abbrev srcPL (s : Fin 4) (b : Fin 12) : sProp 𝕄 := (srcL b).view.loc (c : Thread nD τ) ↦[(srcL b).view.set]{qs s} WL
def restL (s : Fin 4) (b : Fin 12) : sProp 𝕄 := ((c : Thread nD τ).loc main_v1) ↦[Finset.univ \ (srcL b).view.set]{qs s} WL
abbrev wholeL (s : Fin 4) : sProp 𝕄 := ((c : Thread nD τ).loc main_v1) ↦[Finset.univ]{qs s} WL
/-- Slot `s` once block `b` has landed in it, and the transfer of that block in flight. -/
abbrev landedL (s : Fin 4) (b : Fin 12) (f : HbBuf (F := F) c (rslot s)) : HbBuf (F := F) c (rslot s) :=
  (rslot s).view.writes (Elt F) f [⟨Rect.whole S512x1024, ReadAs.same.apply ((srcL b).view.read (Elt F) WL)⟩]
abbrev flightL (s : Fin 4) (b : Fin 12) (f : HbBuf (F := F) c (rslot s)) : sProp 𝕄 :=
  Transfers.Flight countersEmb (c : Thread nD τ) (cellR s) default ((rslot s).view.amount (cellR s))
    iprop(slotP c s (landedL c WL s b f) ∗ srcPL c WL s b)
/-- A slot not in flight carries its shares of both arrays; one in flight, the share of the array it does not read. -/
abbrev slotW (s : Fin 4) (f : HbBuf (F := F) c (rslot s)) : sProp 𝕄 := iprop(slotP c s f ∗ wholeC c WC s ∗ wholeL c WL s)
abbrev flightWC (s : Fin 4) (b : Fin 12) (f : HbBuf (F := F) c (rslot s)) : sProp 𝕄 := iprop(flightC c WC s b f ∗ restC c WC s b ∗ wholeL c WL s)
abbrev flightWL (s : Fin 4) (b : Fin 12) (f : HbBuf (F := F) c (rslot s)) : sProp 𝕄 := iprop(flightL c WL s b f ∗ restL c WL s b ∗ wholeC c WC s)
def flightW (s : Fin 4) (b : Fin 12) (f : HbBuf (F := F) c (rslot s)) : sProp 𝕄 :=
  if b.val < 8 then flightWC c WC WL s b f else flightWL c WC WL s b f
abbrev noHome (b : Fin 12) : sProp 𝕄 := iprop(emp)
/-- The ring before step `k`. -/
def ringAt (k : ℕ) : sProp 𝕄 :=
  if k = 0 then Ring.At₀ (cellP c) (slotW c WC WL) noHome
  else Ring.At 3 (cellP c) (slotW c WC WL) noHome (flightW c WC WL) k
omit [FloatOps F] in
theorem flightW_C {b : Fin 12} (h : b.val < 8) (s : Fin 4) : flightW c WC WL s b = flightWC c WC WL s b := by
  funext f; exact if_pos h
omit [FloatOps F] in
theorem flightW_L {b : Fin 12} (h : ¬b.val < 8) (s : Fin 4) : flightW c WC WL s b = flightWL c WC WL s b := by
  funext f; exact if_neg h
omit [FloatOps F] in
theorem cellP_0 : cellP (F := F) c 0 = semVal ((c : Thread nD τ), SemLoc.dma 10) 0 := congrArg (fun x => (semVal ((c : Thread nD τ), x) 0 : sProp 𝕄)) cellR_0
omit [FloatOps F] in
theorem cellP_1 : cellP (F := F) c 1 = semVal ((c : Thread nD τ), SemLoc.dma 11) 0 := congrArg (fun x => (semVal ((c : Thread nD τ), x) 0 : sProp 𝕄)) cellR_1
omit [FloatOps F] in
theorem cellP_2 : cellP (F := F) c 2 = semVal ((c : Thread nD τ), SemLoc.dma 12) 0 := congrArg (fun x => (semVal ((c : Thread nD τ), x) 0 : sProp 𝕄)) cellR_2
omit [FloatOps F] in
theorem cellP_3 : cellP (F := F) c 3 = semVal ((c : Thread nD τ), SemLoc.dma 13) 0 := congrArg (fun x => (semVal ((c : Thread nD τ), x) 0 : sProp 𝕄)) cellR_3
omit [FloatOps F] in
theorem inflight_C {b : Fin 12} (h : b.val < 8) (s : Fin 4) : Ring.inflight (flightW c WC WL) s b = Ring.inflight (flightWC c WC WL) s b := by
  unfold Ring.inflight; rw [flightW_C c WC WL h s]
omit [FloatOps F] in
theorem inflight_L {b : Fin 12} (h : ¬b.val < 8) (s : Fin 4) : Ring.inflight (flightW c WC WL) s b = Ring.inflight (flightWL c WC WL) s b := by
  unfold Ring.inflight; rw [flightW_L c WC WL h s]
end Families
/-! ### The slots, disjoint and covering the scratch -/

abbrev slotSet (s : Fin 4) : Finset S4x512x1024.Idx := (Rect.unit (s := S4x512x1024) ![s.val, 0, 0] S1x512x1024.size (inb_slot s)).set
theorem slotSet_eq (s : Fin 4) : (rslot s).view.set = slotSet s := by
  simp only [rslot, Memref.view_squeeze, View.set_reshape]; exact View.set_slice_whole _ _
theorem slots_disjoint (s s' : Fin 4) (h : s ≠ s') : Disjoint (slotSet s) (slotSet s') :=
  Ring.lead_disjoint (s := S4x512x1024) (0 : Fin 3) 1 (fun s : Fin 4 => (![s.val, 0, 0] : Fin 3 → Nat)) S1x512x1024.size inb_slot (fun s => by simp) rfl s s' h
theorem slots_cover : Finset.univ.biUnion slotSet = Finset.univ :=
  Ring.lead_cover (s := S4x512x1024) (0 : Fin 3) 1 (fun s : Fin 4 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (WC : HbBuf (F := F) c hbC) (WL : HbBuf (F := F) c hbL)
theorem slotP_eq (s : Fin 4) (f) : slotP (F := F) c s f = (((c : Thread nD τ).loc cc0_scratch2) ↦[slotSet s]{fullShare} f : sProp 𝕄) := by
  unfold slotP; rw [slotSet_eq]; rfl
/-- A slot's share of the array is block `b`'s elements and the rest (any `b`: what a run splits off before its step
    starts block `b`, and joins back once the wait returned it); -/
theorem srcC_split (s : Fin 4) (b : Fin 12) : wholeC (F := F) c WC s ⊣⊢ iprop(srcPC c WC s b ∗ restC c WC s b) := by
  unfold restC; exact pointsTo_split_subset (Finset.subset_univ _)
/-- the array whole at the full share is the 4 copies (halved down the right spine). -/
theorem wholeC_split : (hbPt c hbC WC : sProp 𝕄) ⊣⊢ iprop(wholeC c WC 0 ∗ wholeC c WC 1 ∗ wholeC c WC 2 ∗ wholeC c WC 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3
/-- A slot's share of the array is block `b`'s elements and the rest (any `b`: what a run splits off before its step
    starts block `b`, and joins back once the wait returned it); -/
theorem srcL_split (s : Fin 4) (b : Fin 12) : wholeL (F := F) c WL s ⊣⊢ iprop(srcPL c WL s b ∗ restL c WL s b) := by
  unfold restL; exact pointsTo_split_subset (Finset.subset_univ _)
/-- the array whole at the full share is the 4 copies (halved down the right spine). -/
theorem wholeL_split : (hbPt c hbL WL : sProp 𝕄) ⊣⊢ iprop(wholeL c WL 0 ∗ wholeL c WL 1 ∗ wholeL c WL 2 ∗ wholeL c WL 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3
set_option maxHeartbeats 1000000 in
/-- the scratch whole at anything is its slots at something each, and back. -/
theorem slots_in : iprop(∃ d, owns (c : Thread nD τ) scM0_2 fullShare d) ⊢ (iprop((∃ f, slotP (F := F) c 0 f) ∗ (∃ f, slotP (F := F) c 1 f) ∗ (∃ f, slotP (F := F) c 2 f) ∗ ∃ f, slotP (F := F) c 3 f) : sProp 𝕄) := by
  simp only [scM0_2, owns_whole]
  exact Ring.slots4_split (U := Pipeline.UD sig nD τ) (ℓ := (c : Thread nD τ).loc cc0_scratch2) (q := fullShare) slotSet slots_disjoint slots_cover
    (slotP c 0) (slotP c 1) (slotP c 2) (slotP c 3) (slotP_eq c 0) (slotP_eq c 1) (slotP_eq c 2) (slotP_eq c 3)
set_option maxHeartbeats 1000000 in
theorem slots_out : (iprop((∃ f, slotP (F := F) c 0 f) ∗ (∃ f, slotP (F := F) c 1 f) ∗ (∃ f, slotP (F := F) c 2 f) ∗ ∃ f, slotP (F := F) c 3 f) : sProp 𝕄) ⊢ iprop(∃ d, owns (c : Thread nD τ) scM0_2 fullShare d) := by
  simp only [scM0_2, owns_whole]
  exact Ring.slots4_join (U := Pipeline.UD sig nD τ) (ℓ := (c : Thread nD τ).loc cc0_scratch2) (q := fullShare) slotSet slots_disjoint slots_cover
    (slotP c 0) (slotP c 1) (slotP c 2) (slotP c 3) (slotP_eq c 0) (slotP_eq c 1) (slotP_eq c 2) (slotP_eq c 3)
end InOut

/-- The launch's pieces are the ring before its first step. -/
theorem ring_in (c : Dev nD) :
    iprop((∃ d, owns (c : Thread nD τ) scM0_2 fullShare d) ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ hbPt c hbC (V m c main_v0) ∗ hbPt c hbL (V m c main_v1))
      ⊢ ringAt c (V m c main_v0) (V m c main_v1) 0 := by
  unfold ringAt; rw [if_pos rfl]; unfold Ring.At₀
  rw [Ring.bigSep_fin4]
  simp only [Ring.free, cellP_0, cellP_1, cellP_2, cellP_3]
  iintro ⟨HS, Hc, HW, HX⟩
  iapply Ring.with_homes₀
  icases Hc with ⟨H0, H1, H2, H3⟩
  ihave HS' := (slots_in (F := F) c) $$ HS
  icases HS' with ⟨⟨%d0, HS0⟩, ⟨%d1, HS1⟩, ⟨%d2, HS2⟩, ⟨%d3, HS3⟩⟩
  ihave HW' := (wholeC_split (F := F) c (V m c main_v0)).1 $$ HW
  icases HW' with ⟨HW0, HW1, HW2, HW3⟩
  ihave HX' := (wholeL_split (F := F) c (V m c main_v1)).1 $$ HX
  icases HX' with ⟨HX0, HX1, HX2, HX3⟩
  isplitl [H0 HS0 HW0 HX0]
  · isplitl [H0]; · iexact H0
    iexists d0; isplitl [HS0]; · iexact HS0
    isplitl [HW0]; · iexact HW0
    iexact HX0
  isplitl [H1 HS1 HW1 HX1]
  · isplitl [H1]; · iexact H1
    iexists d1; isplitl [HS1]; · iexact HS1
    isplitl [HW1]; · iexact HW1
    iexact HX1
  isplitl [H2 HS2 HW2 HX2]
  · isplitl [H2]; · iexact H2
    iexists d2; isplitl [HS2]; · iexact HS2
    isplitl [HW2]; · iexact HW2
    iexact HX2
  · isplitl [H3]; · iexact H3
    iexists d3; isplitl [HS3]; · iexact HS3
    isplitl [HW3]; · iexact HW3
    iexact HX3
/-- After the last step they are those pieces again. -/
theorem ring_out (c : Dev nD) :
    ringAt c (V m c main_v0) (V m c main_v1) 12
      ⊢ iprop((∃ d, owns (c : Thread nD τ) scM0_2 fullShare d) ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ hbPt c hbC (V m c main_v0) ∗ hbPt c hbL (V m c main_v1)) := by
  unfold ringAt; rw [if_neg (by decide)]
  iintro H
  ihave H' := (Ring.free4_of_At_last _ _ _ _) $$ H
  simp only [Ring.free, cellP_0, cellP_1, cellP_2, cellP_3]
  icases H' with ⟨-, ⟨H0, ⟨%f0, HS0, HW0, HX0⟩⟩, ⟨H1, ⟨%f1, HS1, HW1, HX1⟩⟩, ⟨H2, ⟨%f2, HS2, HW2, HX2⟩⟩, ⟨H3, ⟨%f3, HS3, HW3, HX3⟩⟩⟩
  isplitl [HS0 HS1 HS2 HS3]
  · iapply (slots_out (F := F) c); isplitl [HS0]; · iexists f0; iexact HS0
    isplitl [HS1]; · iexists f1; iexact HS1
    isplitl [HS2]; · iexists f2; iexact HS2
    iexists f3; iexact HS3
  isplitl [H0 H1 H2 H3]
  · isplitl [H0]; · iexact H0
    isplitl [H1]; · iexact H1
    isplitl [H2]; · iexact H2
    iexact H3
  isplitl [HW0 HW1 HW2 HW3]
  · iapply (wholeC_split (F := F) c (V m c main_v0)).2; isplitl [HW0]; · iexact HW0
    isplitl [HW1]; · iexact HW1
    isplitl [HW2]; · iexact HW2
    iexact HW3
  · iapply (wholeL_split (F := F) c (V m c main_v1)).2; isplitl [HX0]; · iexact HX0
    isplitl [HX1]; · iexact HX1
    isplitl [HX2]; · iexact HX2
    iexact HX3

/-! ### The body's operands are the ring's slots, blocks and cells -/

section Canon
omit [FloatOps F]
theorem coff1 : ∀ t : Fin grid0.N, cond0_0 (grid0.coords t) → cond0_1 (grid0.coords t) → k0_off2 = ![(Ring.sl 4 t.val).val, 0, 0] := by decide +kernel
@[sl_canon] theorem canon1 (t : Fin grid0.N) (h0 : cond0_0 (grid0.coords t)) (h1 : cond0_1 (grid0.coords t)) :
    (scM0_2.slice (Rect.unit (s := S4x512x1024) k0_off2 S1x512x1024.size (k0_off2_inb (grid0.coords t) h0 h1)) (fun _ => rfl)).squeeze S512x1024 squeezes_S1x512x1024_S512x1024 = rslot (Ring.sl 4 t.val) :=
  congrArg (fun M : Memref sig .tc .vmem S1x512x1024 .f32 => M.squeeze S512x1024 squeezes_S1x512x1024_S512x1024) (Memref.slice_unit_congr _ (coff1 t h0 h1) _ _ (fun _ => rfl) (fun _ => rfl))
theorem coff2 : ∀ t : Fin grid0.N, cond0_0 (grid0.coords t) → cond0_1 (grid0.coords t) → k0_off1 = ![(Ring.sl 4 t.val).val] := by decide +kernel
@[sl_canon] theorem canon2 (t : Fin grid0.N) (h0 : cond0_0 (grid0.coords t)) (h1 : cond0_1 (grid0.coords t)) :
    (cc0_scratch3.slice (Rect.unit (s := S4) k0_off1 S1.size (k0_off1_inb (grid0.coords t) h0 h1))).squeeze S_ squeezes_S1_S_ = cellA (Ring.sl 4 t.val) :=
  congrArg (fun A : DmaSems sig S1 => A.squeeze S_ squeezes_S1_S_) (SemArray.slice_unit_congr _ (coff2 t h0 h1) _ _)
theorem coff3 : ∀ t : Fin grid0.N, cond0_0 (grid0.coords t) → cond0_1 (grid0.coords t) → k0_off3 = ![512 * ((Ring.bk 12 t.val).val % 8), 0] := by decide +kernel
@[sl_canon] theorem canon3 (t : Fin grid0.N) (h0 : cond0_0 (grid0.coords t)) (h1 : cond0_1 (grid0.coords t)) :
    hbC.slice (Rect.unit (s := S4096x1024) k0_off3 S512x1024.size (k0_off3_inb (grid0.coords t) h0 h1)) (fun _ => rfl) = srcC (Ring.bk 12 t.val) :=
  Memref.slice_unit_congr _ (coff3 t h0 h1) _ _ (fun _ => rfl) (fun _ => rfl)
theorem coff4 : ∀ t : Fin grid0.N, cond0_0 (grid0.coords t) → cond0_3 (grid0.coords t) → k0_off8 = ![(Ring.sl 4 (t.val + 1)).val, 0, 0] := by decide +kernel
@[sl_canon] theorem canon4 (t : Fin grid0.N) (h0 : cond0_0 (grid0.coords t)) (h3 : cond0_3 (grid0.coords t)) :
    (scM0_2.slice (Rect.unit (s := S4x512x1024) k0_off8 S1x512x1024.size (k0_off8_inb (grid0.coords t) h0 h3)) (fun _ => rfl)).squeeze S512x1024 squeezes_S1x512x1024_S512x1024 = rslot (Ring.sl 4 (t.val + 1)) :=
  congrArg (fun M : Memref sig .tc .vmem S1x512x1024 .f32 => M.squeeze S512x1024 squeezes_S1x512x1024_S512x1024) (Memref.slice_unit_congr _ (coff4 t h0 h3) _ _ (fun _ => rfl) (fun _ => rfl))
theorem coff5 : ∀ t : Fin grid0.N, cond0_0 (grid0.coords t) → cond0_3 (grid0.coords t) → k0_off7 = ![(Ring.sl 4 (t.val + 1)).val] := by decide +kernel
@[sl_canon] theorem canon5 (t : Fin grid0.N) (h0 : cond0_0 (grid0.coords t)) (h3 : cond0_3 (grid0.coords t)) :
    (cc0_scratch3.slice (Rect.unit (s := S4) k0_off7 S1.size (k0_off7_inb (grid0.coords t) h0 h3))).squeeze S_ squeezes_S1_S_ = cellA (Ring.sl 4 (t.val + 1)) :=
  congrArg (fun A : DmaSems sig S1 => A.squeeze S_ squeezes_S1_S_) (SemArray.slice_unit_congr _ (coff5 t h0 h3) _ _)
theorem coff6 : ∀ t : Fin grid0.N, cond0_0 (grid0.coords t) → cond0_3 (grid0.coords t) → k0_off9 = ![512 * ((Ring.bk 12 (t.val + 1)).val % 8), 0] := by decide +kernel
@[sl_canon] theorem canon6 (t : Fin grid0.N) (h0 : cond0_0 (grid0.coords t)) (h3 : cond0_3 (grid0.coords t)) :
    hbC.slice (Rect.unit (s := S4096x1024) k0_off9 S512x1024.size (k0_off9_inb (grid0.coords t) h0 h3)) (fun _ => rfl) = srcC (Ring.bk 12 (t.val + 1)) :=
  Memref.slice_unit_congr _ (coff6 t h0 h3) _ _ (fun _ => rfl) (fun _ => rfl)
theorem coff7 : ∀ t : Fin grid0.N, cond0_0 (grid0.coords t) → cond0_5 (grid0.coords t) → k0_off14 = ![(Ring.sl 4 (t.val + 2)).val, 0, 0] := by decide +kernel
@[sl_canon] theorem canon7 (t : Fin grid0.N) (h0 : cond0_0 (grid0.coords t)) (h5 : cond0_5 (grid0.coords t)) :
    (scM0_2.slice (Rect.unit (s := S4x512x1024) k0_off14 S1x512x1024.size (k0_off14_inb (grid0.coords t) h0 h5)) (fun _ => rfl)).squeeze S512x1024 squeezes_S1x512x1024_S512x1024 = rslot (Ring.sl 4 (t.val + 2)) :=
  congrArg (fun M : Memref sig .tc .vmem S1x512x1024 .f32 => M.squeeze S512x1024 squeezes_S1x512x1024_S512x1024) (Memref.slice_unit_congr _ (coff7 t h0 h5) _ _ (fun _ => rfl) (fun _ => rfl))
theorem coff8 : ∀ t : Fin grid0.N, cond0_0 (grid0.coords t) → cond0_5 (grid0.coords t) → k0_off13 = ![(Ring.sl 4 (t.val + 2)).val] := by decide +kernel
@[sl_canon] theorem canon8 (t : Fin grid0.N) (h0 : cond0_0 (grid0.coords t)) (h5 : cond0_5 (grid0.coords t)) :
    (cc0_scratch3.slice (Rect.unit (s := S4) k0_off13 S1.size (k0_off13_inb (grid0.coords t) h0 h5))).squeeze S_ squeezes_S1_S_ = cellA (Ring.sl 4 (t.val + 2)) :=
  congrArg (fun A : DmaSems sig S1 => A.squeeze S_ squeezes_S1_S_) (SemArray.slice_unit_congr _ (coff8 t h0 h5) _ _)
theorem coff9 : ∀ t : Fin grid0.N, cond0_0 (grid0.coords t) → cond0_5 (grid0.coords t) → k0_off15 = ![512 * ((Ring.bk 12 (t.val + 2)).val % 8), 0] := by decide +kernel
@[sl_canon] theorem canon9 (t : Fin grid0.N) (h0 : cond0_0 (grid0.coords t)) (h5 : cond0_5 (grid0.coords t)) :
    hbC.slice (Rect.unit (s := S4096x1024) k0_off15 S512x1024.size (k0_off15_inb (grid0.coords t) h0 h5)) (fun _ => rfl) = srcC (Ring.bk 12 (t.val + 2)) :=
  Memref.slice_unit_congr _ (coff9 t h0 h5) _ _ (fun _ => rfl) (fun _ => rfl)
theorem coff10 : ∀ t : Fin grid0.N, cond0_7 (grid0.coords t) → cond0_8 (grid0.coords t) → k0_off20 (grid0.coords t) = ![(Ring.sl 4 (t.val + 3)).val, 0, 0] := by decide +kernel
@[sl_canon] theorem canon10 (t : Fin grid0.N) (h7 : cond0_7 (grid0.coords t)) (h8 : cond0_8 (grid0.coords t)) :
    (scM0_2.slice (Rect.unit (s := S4x512x1024) (k0_off20 (grid0.coords t)) S1x512x1024.size (k0_off20_inb (grid0.coords t) h7 h8)) (fun _ => rfl)).squeeze S512x1024 squeezes_S1x512x1024_S512x1024 = rslot (Ring.sl 4 (t.val + 3)) :=
  congrArg (fun M : Memref sig .tc .vmem S1x512x1024 .f32 => M.squeeze S512x1024 squeezes_S1x512x1024_S512x1024) (Memref.slice_unit_congr _ (coff10 t h7 h8) _ _ (fun _ => rfl) (fun _ => rfl))
theorem coff11 : ∀ t : Fin grid0.N, cond0_7 (grid0.coords t) → cond0_8 (grid0.coords t) → k0_off19 (grid0.coords t) = ![(Ring.sl 4 (t.val + 3)).val] := by decide +kernel
@[sl_canon] theorem canon11 (t : Fin grid0.N) (h7 : cond0_7 (grid0.coords t)) (h8 : cond0_8 (grid0.coords t)) :
    (cc0_scratch3.slice (Rect.unit (s := S4) (k0_off19 (grid0.coords t)) S1.size (k0_off19_inb (grid0.coords t) h7 h8))).squeeze S_ squeezes_S1_S_ = cellA (Ring.sl 4 (t.val + 3)) :=
  congrArg (fun A : DmaSems sig S1 => A.squeeze S_ squeezes_S1_S_) (SemArray.slice_unit_congr _ (coff11 t h7 h8) _ _)
theorem coff12 : ∀ t : Fin grid0.N, cond0_7 (grid0.coords t) → cond0_8 (grid0.coords t) → k0_off21 (grid0.coords t) = ![512 * ((Ring.bk 12 (t.val + 3)).val % 8), 0] := by decide +kernel
@[sl_canon] theorem canon12 (t : Fin grid0.N) (h7 : cond0_7 (grid0.coords t)) (h8 : cond0_8 (grid0.coords t)) :
    hbC.slice (Rect.unit (s := S4096x1024) (k0_off21 (grid0.coords t)) S512x1024.size (k0_off21_inb (grid0.coords t) h7 h8)) (fun _ => rfl) = srcC (Ring.bk 12 (t.val + 3)) :=
  Memref.slice_unit_congr _ (coff12 t h7 h8) _ _ (fun _ => rfl) (fun _ => rfl)
theorem coff13 : ∀ t : Fin grid0.N, cond0_7 (grid0.coords t) → cond0_9 (grid0.coords t) → k0_off23 (grid0.coords t) = ![(Ring.sl 4 (t.val + 3)).val, 0, 0] := by decide +kernel
@[sl_canon] theorem canon13 (t : Fin grid0.N) (h7 : cond0_7 (grid0.coords t)) (h9 : cond0_9 (grid0.coords t)) :
    (scM0_2.slice (Rect.unit (s := S4x512x1024) (k0_off23 (grid0.coords t)) S1x512x1024.size (k0_off23_inb (grid0.coords t) h7 h9)) (fun _ => rfl)).squeeze S512x1024 squeezes_S1x512x1024_S512x1024 = rslot (Ring.sl 4 (t.val + 3)) :=
  congrArg (fun M : Memref sig .tc .vmem S1x512x1024 .f32 => M.squeeze S512x1024 squeezes_S1x512x1024_S512x1024) (Memref.slice_unit_congr _ (coff13 t h7 h9) _ _ (fun _ => rfl) (fun _ => rfl))
theorem coff14 : ∀ t : Fin grid0.N, cond0_7 (grid0.coords t) → cond0_9 (grid0.coords t) → k0_off22 (grid0.coords t) = ![(Ring.sl 4 (t.val + 3)).val] := by decide +kernel
@[sl_canon] theorem canon14 (t : Fin grid0.N) (h7 : cond0_7 (grid0.coords t)) (h9 : cond0_9 (grid0.coords t)) :
    (cc0_scratch3.slice (Rect.unit (s := S4) (k0_off22 (grid0.coords t)) S1.size (k0_off22_inb (grid0.coords t) h7 h9))).squeeze S_ squeezes_S1_S_ = cellA (Ring.sl 4 (t.val + 3)) :=
  congrArg (fun A : DmaSems sig S1 => A.squeeze S_ squeezes_S1_S_) (SemArray.slice_unit_congr _ (coff14 t h7 h9) _ _)
theorem coff15 : ∀ t : Fin grid0.N, cond0_7 (grid0.coords t) → cond0_9 (grid0.coords t) → k0_off24 (grid0.coords t) = ![512 * (((Ring.bk 12 (t.val + 3)).val - 8) % 4), 0] := by decide +kernel
@[sl_canon] theorem canon15 (t : Fin grid0.N) (h7 : cond0_7 (grid0.coords t)) (h9 : cond0_9 (grid0.coords t)) :
    hbL.slice (Rect.unit (s := S2048x1024) (k0_off24 (grid0.coords t)) S512x1024.size (k0_off24_inb (grid0.coords t) h7 h9)) (fun _ => rfl) = srcL (Ring.bk 12 (t.val + 3)) :=
  Memref.slice_unit_congr _ (coff15 t h7 h9) _ _ (fun _ => rfl) (fun _ => rfl)
theorem coff16 : ∀ t : Fin grid0.N, cond0_11 (grid0.coords t) → k0_off26 (grid0.coords t) = ![(Ring.sl 4 t.val).val, 0, 0] := by decide +kernel
@[sl_canon] theorem canon16 (t : Fin grid0.N) (h11 : cond0_11 (grid0.coords t)) :
    (scM0_2.slice (Rect.unit (s := S4x512x1024) (k0_off26 (grid0.coords t)) S1x512x1024.size (k0_off26_inb (grid0.coords t) h11)) (fun _ => rfl)).squeeze S512x1024 squeezes_S1x512x1024_S512x1024 = rslot (Ring.sl 4 t.val) :=
  congrArg (fun M : Memref sig .tc .vmem S1x512x1024 .f32 => M.squeeze S512x1024 squeezes_S1x512x1024_S512x1024) (Memref.slice_unit_congr _ (coff16 t h11) _ _ (fun _ => rfl) (fun _ => rfl))
theorem coff17 : ∀ t : Fin grid0.N, cond0_11 (grid0.coords t) → k0_off25 (grid0.coords t) = ![(Ring.sl 4 t.val).val] := by decide +kernel
@[sl_canon] theorem canon17 (t : Fin grid0.N) (h11 : cond0_11 (grid0.coords t)) :
    (cc0_scratch3.slice (Rect.unit (s := S4) (k0_off25 (grid0.coords t)) S1.size (k0_off25_inb (grid0.coords t) h11))).squeeze S_ squeezes_S1_S_ = cellA (Ring.sl 4 t.val) :=
  congrArg (fun A : DmaSems sig S1 => A.squeeze S_ squeezes_S1_S_) (SemArray.slice_unit_congr _ (coff17 t h11) _ _)
theorem coff18 : ∀ t : Fin grid0.N, cond0_11 (grid0.coords t) → k0_off27 (grid0.coords t) = ![512 * ((Ring.bk 12 t.val).val % 8), 0] := by decide +kernel
@[sl_canon] theorem canon18 (t : Fin grid0.N) (h11 : cond0_11 (grid0.coords t)) :
    hbC.slice (Rect.unit (s := S4096x1024) (k0_off27 (grid0.coords t)) S512x1024.size (k0_off27_inb (grid0.coords t) h11)) (fun _ => rfl) = srcC (Ring.bk 12 t.val) :=
  Memref.slice_unit_congr _ (coff18 t h11) _ _ (fun _ => rfl) (fun _ => rfl)
theorem coff19 : ∀ t : Fin grid0.N, cond0_12 (grid0.coords t) → k0_off29 (grid0.coords t) = ![(Ring.sl 4 t.val).val, 0, 0] := by decide +kernel
@[sl_canon] theorem canon19 (t : Fin grid0.N) (h12 : cond0_12 (grid0.coords t)) :
    (scM0_2.slice (Rect.unit (s := S4x512x1024) (k0_off29 (grid0.coords t)) S1x512x1024.size (k0_off29_inb (grid0.coords t) h12)) (fun _ => rfl)).squeeze S512x1024 squeezes_S1x512x1024_S512x1024 = rslot (Ring.sl 4 t.val) :=
  congrArg (fun M : Memref sig .tc .vmem S1x512x1024 .f32 => M.squeeze S512x1024 squeezes_S1x512x1024_S512x1024) (Memref.slice_unit_congr _ (coff19 t h12) _ _ (fun _ => rfl) (fun _ => rfl))
theorem coff20 : ∀ t : Fin grid0.N, cond0_12 (grid0.coords t) → k0_off28 (grid0.coords t) = ![(Ring.sl 4 t.val).val] := by decide +kernel
@[sl_canon] theorem canon20 (t : Fin grid0.N) (h12 : cond0_12 (grid0.coords t)) :
    (cc0_scratch3.slice (Rect.unit (s := S4) (k0_off28 (grid0.coords t)) S1.size (k0_off28_inb (grid0.coords t) h12))).squeeze S_ squeezes_S1_S_ = cellA (Ring.sl 4 t.val) :=
  congrArg (fun A : DmaSems sig S1 => A.squeeze S_ squeezes_S1_S_) (SemArray.slice_unit_congr _ (coff20 t h12) _ _)
theorem coff21 : ∀ t : Fin grid0.N, cond0_12 (grid0.coords t) → k0_off30 (grid0.coords t) = ![512 * (((Ring.bk 12 t.val).val - 8) % 4), 0] := by decide +kernel
@[sl_canon] theorem canon21 (t : Fin grid0.N) (h12 : cond0_12 (grid0.coords t)) :
    hbL.slice (Rect.unit (s := S2048x1024) (k0_off30 (grid0.coords t)) S512x1024.size (k0_off30_inb (grid0.coords t) h12)) (fun _ => rfl) = srcL (Ring.bk 12 t.val) :=
  Memref.slice_unit_congr _ (coff21 t h12) _ _ (fun _ => rfl) (fun _ => rfl)
theorem coff_load : ∀ t : Fin grid0.N, k0_off33 (grid0.coords t) = ![(Ring.sl 4 t.val).val, 0, 0] := by decide +kernel
/-- The body's load from the ring is inside the slot it has just waited for. -/
instance (priority := high) closedOff_load (t : Fin grid0.N) : ClosedOff (k0_off33 (grid0.coords t)) := ⟨![(Ring.sl 4 t.val).val, 0, 0], coff_load t⟩
/-- The modulation row of a point: row 0 for the context tokens, rows 1 and 2 for the two latent requests. -/
theorem coff_sh : ∀ t : Fin grid0.N, k0_off31 (grid0.coords t) = ![(t.val - 6) / 2, 0] := by decide +kernel
theorem coff_sc : ∀ t : Fin grid0.N, k0_off32 (grid0.coords t) = ![(t.val - 6) / 2, 1024] := by decide +kernel
instance (priority := high) closedOff_sh (t : Fin grid0.N) : ClosedOff (k0_off31 (grid0.coords t)) := ⟨![(t.val - 6) / 2, 0], coff_sh t⟩
instance (priority := high) closedOff_sc (t : Fin grid0.N) : ClosedOff (k0_off32 (grid0.coords t)) := ⟨![(t.val - 6) / 2, 1024], coff_sc t⟩
end Canon

end Cert.InProj

end
-- ==== Proof.InProj.Tile.lean ====
module

public import proofs.«01_k».proof.Proof.InProj.Setup
public import Idealize.ShloMosaic.Lib.VecWindow
public import Idealize.ShloMosaic.Lib.WritesUnit

@[expose] public section

set_option maxRecDepth 16384

noncomputable section

namespace Cert.InProj

open Cert.Kernel2Ideal Cert.Kernel2Ideal.Gen
open Idealize.ShloMosaic Idealize.ShloMosaic.TcCoe Idealize.ShloMosaic.Tactic

variable {F : FTy → Type} [FloatOps F]

/-- A block of tokens as the ring holds it, with its leading axis of one slot. -/
def lead1 (x : Vec F S512x1024 .f32) : Vec F S1x512x1024 .f32 :=
  fun k => x (show S512x1024.Idx from fun a => match a with | ⟨0, _⟩ => k 1 | ⟨1, _⟩ => k 2)

/-- The block's normed and modulated rows. -/
def hT (i : grid0.Coords) (md : Vec F S8x2048 .f32) (nw : Vec F S1x1024 .f32) (x : Vec F S512x1024 .f32) : FVec F S512x1024 .bf16 :=
  k0_pay10 (View.ld md (Rect.unit (s := S8x2048) (k0_off31 i) S1x1024.size (k0_off31_inb i)))
    (View.ld md (Rect.unit (s := S8x2048) (k0_off32 i) S1x1024.size (k0_off32_inb i))) (lead1 x) nw

/-- The block's tile of the first output, the columns kept in f32. -/
def zfT (i : grid0.Coords) (md : Vec F S8x2048 .f32) (wb : Vec F S3200x1024 .bf16) (nw : Vec F S1x1024 .f32) (x : Vec F S512x1024 .f32) :
    Vec F S512x1152 .f32 :=
  k0_pay11 (View.ld md (Rect.unit (s := S8x2048) (k0_off31 i) S1x1024.size (k0_off31_inb i)))
    (View.ld md (Rect.unit (s := S8x2048) (k0_off32 i) S1x1024.size (k0_off32_inb i))) (lead1 x) nw
    (View.ld wb (Rect.unit (s := S3200x1024) ![0, 0] S1152x1024.size inb_S3200x1024_S1152x1024_0_0))

/-- The block's tile of the second output, the columns stored in bf16. -/
def zhT (i : grid0.Coords) (md : Vec F S8x2048 .f32) (wb : Vec F S3200x1024 .bf16) (nw : Vec F S1x1024 .f32) (x : Vec F S512x1024 .f32) :
    Vec F S512x2048 .bf16 :=
  k0_pay1 (hT i md nw x) (View.ld wb (Rect.unit (s := S3200x1024) ![1152, 0] S2048x1024.size inb_S3200x1024_S2048x1024_1152_0))

/-- The modulation rows the first point computes: one row for the context tokens, one for each latent request. -/
def mdOf (x0 : Vec F S1x1024 .f32) (x1 : Vec F S2x1024 .f32) (x2 : Vec F S1024x2048 .f32) (x3 : Vec F S1x2048 .f32) : Vec F S8x2048 .f32 :=
  k0_pay3 (k0_pay2 x0 (View.ld x1 (Rect.unit (s := S2x1024) ![0, 0] S1x1024.size inb_S2x1024_S1x1024_0_0))
    (View.ld x1 (Rect.unit (s := S2x1024) ![1, 0] S1x1024.size inb_S2x1024_S1x1024_1_0)) x2 x3)

/-- Row `n` and column `j` of a matrix, as an index. -/
def rowIx {n : ℕ} (r : Fin n) (j : Fin 1024) : (⟨2, ![n, 1024]⟩ : Shape).Idx := fun a => match a with | ⟨0, _⟩ => r | ⟨1, _⟩ => j

/-- The weights' rows as the first point lays them out for the two products. -/
def wbOf (x5 : Vec F S3120x1024 .f32) : Vec F S3200x1024 .bf16 := fun y =>
  if h0 : (y 0).val < 512 then k0_pay4 (View.ld x5 (Rect.unit (s := S3120x1024) ![0, 0] S512x1024.size inb_S3120x1024_S512x1024_0_0)) (rowIx ⟨(y 0).val - 0, by omega⟩ (y 1))
  else if h1 : (y 0).val < 1024 then k0_pay5 (View.ld x5 (Rect.unit (s := S3120x1024) ![1568, 0] S512x1024.size inb_S3120x1024_S512x1024_1568_0)) (rowIx ⟨(y 0).val - 512, by omega⟩ (y 1))
  else if h2 : (y 0).val < 1152 then k0_pay6 (View.ld x5 (Rect.unit (s := S3120x1024) ![1536, 0] S32x1024.size inb_S3120x1024_S32x1024_1536_0)) (View.ld x5 (Rect.unit (s := S3120x1024) ![3104, 0] S16x1024.size inb_S3120x1024_S16x1024_3104_0)) (rowIx ⟨(y 0).val - 1024, by omega⟩ (y 1))
  else if h3 : (y 0).val < 2176 then k0_pay7 (View.ld x5 (Rect.unit (s := S3120x1024) ![512, 0] S1024x1024.size inb_S3120x1024_S1024x1024_512_0)) (rowIx ⟨(y 0).val - 1152, by omega⟩ (y 1))
  else k0_pay9 (k0_pay8 (View.ld x5 (Rect.unit (s := S3120x1024) ![2080, 0] S1024x1024.size inb_S3120x1024_S1024x1024_2080_0))) (rowIx ⟨(y 0).val - 2176, by have := (y 0).isLt; have : (y 0).val < 3200 := this; omega⟩ (y 1))

/-- The five stores of the first point leave the scratch at those rows, whatever it held. -/
theorem read_wb (v : View sig .tc .vmem S3200x1024 .bf16) (f : v.ty.Contents (Elt F)) (x5 : Vec F S3120x1024 .f32) :
    v.read (Elt F) (v.writes (Elt F) f
      [⟨Rect.unit (s := S3200x1024) ![2176, 0] S1024x1024.size inb_S3200x1024_S1024x1024_2176_0, k0_pay9 (k0_pay8 (View.ld x5 (Rect.unit (s := S3120x1024) ![2080, 0] S1024x1024.size inb_S3120x1024_S1024x1024_2080_0)))⟩,
        ⟨Rect.unit (s := S3200x1024) ![1152, 0] S1024x1024.size inb_S3200x1024_S1024x1024_1152_0, k0_pay7 (View.ld x5 (Rect.unit (s := S3120x1024) ![512, 0] S1024x1024.size inb_S3120x1024_S1024x1024_512_0))⟩,
        ⟨Rect.unit (s := S3200x1024) ![1024, 0] S128x1024.size inb_S3200x1024_S128x1024_1024_0, k0_pay6 (View.ld x5 (Rect.unit (s := S3120x1024) ![1536, 0] S32x1024.size inb_S3120x1024_S32x1024_1536_0)) (View.ld x5 (Rect.unit (s := S3120x1024) ![3104, 0] S16x1024.size inb_S3120x1024_S16x1024_3104_0))⟩,
        ⟨Rect.unit (s := S3200x1024) ![512, 0] S512x1024.size inb_S3200x1024_S512x1024_512_0, k0_pay5 (View.ld x5 (Rect.unit (s := S3120x1024) ![1568, 0] S512x1024.size inb_S3120x1024_S512x1024_1568_0))⟩,
        ⟨Rect.unit (s := S3200x1024) ![0, 0] S512x1024.size inb_S3200x1024_S512x1024_0_0, k0_pay4 (View.ld x5 (Rect.unit (s := S3120x1024) ![0, 0] S512x1024.size inb_S3120x1024_S512x1024_0_0))⟩]) = wbOf x5 := by
  funext y
  have hy : (y 0).val < 3200 := (y 0).isLt
  unfold wbOf
  by_cases h0 : (y 0).val < 512
  · rw [dif_pos h0]
    refine (View.read_writes_cons_rows_of_not_mem v f (o := 2176) (W := 1024) _ _ _ y rfl rfl (by omega)).trans ?_
    refine (View.read_writes_cons_rows_of_not_mem v f (o := 1152) (W := 1024) _ _ _ y rfl rfl (by omega)).trans ?_
    refine (View.read_writes_cons_rows_of_not_mem v f (o := 1024) (W := 128) _ _ _ y rfl rfl (by omega)).trans ?_
    refine (View.read_writes_cons_rows_of_not_mem v f (o := 512) (W := 512) _ _ _ y rfl rfl (by omega)).trans ?_
    exact View.read_writes_cons_rows_of_mem v f (o := 0) _ _ _ y (rowIx ⟨(y 0).val - 0, _⟩ (y 1)) rfl (by show (y 0).val = 0 + ((y 0).val - 0); omega) rfl
  rw [dif_neg h0]
  by_cases h1 : (y 0).val < 1024
  · rw [dif_pos h1]
    refine (View.read_writes_cons_rows_of_not_mem v f (o := 2176) (W := 1024) _ _ _ y rfl rfl (by omega)).trans ?_
    refine (View.read_writes_cons_rows_of_not_mem v f (o := 1152) (W := 1024) _ _ _ y rfl rfl (by omega)).trans ?_
    refine (View.read_writes_cons_rows_of_not_mem v f (o := 1024) (W := 128) _ _ _ y rfl rfl (by omega)).trans ?_
    exact View.read_writes_cons_rows_of_mem v f (o := 512) _ _ _ y (rowIx ⟨(y 0).val - 512, _⟩ (y 1)) rfl (by show (y 0).val = 512 + ((y 0).val - 512); omega) rfl
  rw [dif_neg h1]
  by_cases h2 : (y 0).val < 1152
  · rw [dif_pos h2]
    refine (View.read_writes_cons_rows_of_not_mem v f (o := 2176) (W := 1024) _ _ _ y rfl rfl (by omega)).trans ?_
    refine (View.read_writes_cons_rows_of_not_mem v f (o := 1152) (W := 1024) _ _ _ y rfl rfl (by omega)).trans ?_
    exact View.read_writes_cons_rows_of_mem v f (o := 1024) _ _ _ y (rowIx ⟨(y 0).val - 1024, _⟩ (y 1)) rfl (by show (y 0).val = 1024 + ((y 0).val - 1024); omega) rfl
  rw [dif_neg h2]
  by_cases h3 : (y 0).val < 2176
  · rw [dif_pos h3]
    refine (View.read_writes_cons_rows_of_not_mem v f (o := 2176) (W := 1024) _ _ _ y rfl rfl (by omega)).trans ?_
    exact View.read_writes_cons_rows_of_mem v f (o := 1152) _ _ _ y (rowIx ⟨(y 0).val - 1152, _⟩ (y 1)) rfl (by show (y 0).val = 1152 + ((y 0).val - 1152); omega) rfl
  rw [dif_neg h3]
  exact View.read_writes_cons_rows_of_mem v f (o := 2176) _ _ _ y (rowIx ⟨(y 0).val - 2176, _⟩ (y 1)) rfl (by show (y 0).val = 2176 + ((y 0).val - 2176); omega) rfl

/-- The row-major position of an index into one slot and of that slot's block agree. -/
theorem lead_pos (j : S1x512x1024.Idx) (x : S512x1024.Idx) (h1 : (x 0).val = (j 1).val) (h2 : (x 1).val = (j 2).val) :
    (S1x512x1024.rowMajor j).val = (S512x1024.rowMajor x).val := by
  have h0 : (j 0).val = 0 := Nat.lt_one_iff.mp (j 0).isLt
  rw [Shape.rowMajor_val_three, Shape.rowMajor_val_two, h0, h1, h2]
  show ((0 * 512) + (j 1).val) * 1024 + (j 2).val = _
  simp

/-- The ring's slot read back: the block that landed in it. -/
theorem ring_read (s : Fin 4) (f : (rslot s).view.ty.Contents (Elt F)) (y : Vec F S512x1024 .f32) {off : Fin 3 → ℕ} (h : off = ![s.val, 0, 0])
    (inb : ∀ a, off a + S1x512x1024.size a ≤ S4x512x1024.size a) :
    View.readAt (Elt F) scM0_2.view (Rect.unit (s := S4x512x1024) off S1x512x1024.size inb).toLoadRect
      ((rslot s).view.writes (Elt F) f [⟨Rect.whole S512x1024, y⟩]) = lead1 y := by
  subst h
  funext j
  have h1 := congrFun (View.read_writes_whole (rslot s).view f y) (show S512x1024.Idx from fun a => match a with | ⟨0, _⟩ => j 1 | ⟨1, _⟩ => j 2)
  refine Eq.trans ?_ h1
  generalize (rslot s).view.writes (Elt F) f [⟨Rect.whole S512x1024, y⟩] = g
  refine Eq.trans (b := View.read (Elt F) ((scM0_2.slice (Rect.unit (s := S4x512x1024) ![s.val, 0, 0] S1x512x1024.size (inb_slot s)) (fun _ => rfl))).view g j) rfl ?_
  refine Eq.trans (congrArg (View.read (Elt F) ((scM0_2.slice (Rect.unit (s := S4x512x1024) ![s.val, 0, 0] S1x512x1024.size (inb_slot s)) (fun _ => rfl))).view g) ?_) rfl
  exact (Shape.reshapeEquiv_eq_of_rowMajor _ (lead_pos j _ rfl rfl)).symm

end Cert.InProj

end
-- ==== Proof.InProj.Payload.lean ====
module

public import proofs.«01_k».proof.Proof.InProj.Model
public import proofs.«01_k».proof.Proof.InProj.Tile

/-! The kernel's stored values, read at an index over the extended reals. -/

@[expose] public section

set_option maxRecDepth 16384

noncomputable section

namespace Cert.InProj

open Cert.Kernel2Ideal Cert.Kernel2Ideal.Gen
open Idealize.ShloMosaic Idealize.ShloMosaic.Pointwise

/-- The normed and modulated row. -/
theorem pay10_apply (sh sc : Vec Ideal S1x1024 .f32) (x : Vec Ideal S1x512x1024 .f32) (nw : Vec Ideal S1x1024 .f32) (p : Fin 512) (q : Fin 1024) :
    k0_pay10 sh sc x nw (ix2 p q) = Row.modulate (fun j => x (ix3 0 p j)) (fun j => nw (ix2 0 j)) (fun j => sc (ix2 0 j)) (fun j => sh (ix2 0 j)) q := by
  unfold Row.modulate Row.norm
  pointwise [k0_pay10]

/-- A row's product with a laid-out weight row, in the first tile. -/
theorem pay11_apply (sh sc : Vec Ideal S1x1024 .f32) (x : Vec Ideal S1x512x1024 .f32) (nw : Vec Ideal S1x1024 .f32) (w : Vec Ideal S1152x1024 .bf16) (p : Fin 512) (j : Fin 1152) :
    k0_pay11 sh sc x nw w (ix2 p j) = ∑ k : Fin 1024, k0_pay10 sh sc x nw (ix2 p k) * w (ix2 j k) := by
  unfold k0_pay11
  generalize k0_pay10 sh sc x nw = h
  pointwise []

/-- A row's product with a laid-out weight row, in the second tile. -/
theorem pay1_apply (h : Vec Ideal S512x1024 .bf16) (w : Vec Ideal S2048x1024 .bf16) (p : Fin 512) (j : Fin 2048) :
    k0_pay1 h w (ix2 p j) = ∑ k : Fin 1024, h (ix2 p k) * w (ix2 j k) := by
  pointwise [k0_pay1]

/-- Which conditioning vector a row of the modulation takes. -/
theorem pick_0_2 (a b : EReal) : Scalar.select (IntOp.cmpi CmpIPredicate.eq 0#32 2#32) a b = b := rfl
theorem pick_0_1 (a b : EReal) : Scalar.select (IntOp.cmpi CmpIPredicate.eq 0#32 1#32) a b = b := rfl
theorem pick_1_2 (a b : EReal) : Scalar.select (IntOp.cmpi CmpIPredicate.eq 1#32 2#32) a b = b := rfl

/-- The context tokens' modulation row. -/
theorem mod_row0 (u v w : Vec Ideal S1x1024 .f32) (wa : Vec Ideal S1024x2048 .f32) (b : Vec Ideal S1x2048 .f32) (j : Fin 2048) :
    k0_pay3 (k0_pay2 u v w wa b) (ix2 0 j) = (∑ k : Fin 1024, Row.silu (u (ix2 0 k)) * wa (ix2 k j)) + b (ix2 0 j) := by
  unfold Row.silu
  pointwise [k0_pay3, k0_pay2]
  simp only [pick_0_2, pick_0_1, zero_sub]

/-- The first request's modulation row. -/
theorem mod_row1 (u v w : Vec Ideal S1x1024 .f32) (wa : Vec Ideal S1024x2048 .f32) (b : Vec Ideal S1x2048 .f32) (j : Fin 2048) :
    k0_pay3 (k0_pay2 u v w wa b) (ix2 1 j) = (∑ k : Fin 1024, Row.silu (v (ix2 0 k)) * wa (ix2 k j)) + b (ix2 0 j) := by
  unfold Row.silu
  pointwise [k0_pay3, k0_pay2]
  simp only [pick_1_2, zero_sub]

/-- The second request's modulation row. -/
theorem mod_row2 (u v w : Vec Ideal S1x1024 .f32) (wa : Vec Ideal S1024x2048 .f32) (b : Vec Ideal S1x2048 .f32) (j : Fin 2048) :
    k0_pay3 (k0_pay2 u v w wa b) (ix2 2 j) = (∑ k : Fin 1024, Row.silu (w (ix2 0 k)) * wa (ix2 k j)) + b (ix2 0 j) := by
  unfold Row.silu
  pointwise [k0_pay3, k0_pay2]
  simp only [zero_sub]

/-- A converted weight is the weight. -/
theorem pay4_apply (x : Vec Ideal S512x1024 .f32) (p : Fin 512) (q : Fin 1024) : k0_pay4 x (ix2 p q) = x (ix2 p q) := by
  pointwise [k0_pay4]
theorem pay5_apply (x : Vec Ideal S512x1024 .f32) (p : Fin 512) (q : Fin 1024) : k0_pay5 x (ix2 p q) = x (ix2 p q) := by
  pointwise [k0_pay5]
theorem pay7_apply (x : Vec Ideal S1024x1024 .f32) (p : Fin 1024) (q : Fin 1024) : k0_pay7 x (ix2 p q) = x (ix2 p q) := by
  pointwise [k0_pay7]
theorem pay9_apply (x : Vec Ideal S1024x1024 .f32) (p : Fin 1024) (q : Fin 1024) : k0_pay9 (k0_pay8 x) (ix2 p q) = x (ix2 p q) := by
  pointwise [k0_pay9, k0_pay8]

/-- The small columns' block: the gates' rows, then zeros. -/
theorem pay6_ra (x : Vec Ideal S32x1024 .f32) (y : Vec Ideal S16x1024 .f32) (p : Fin 32) (q : Fin 1024) :
    k0_pay6 x y (ix2 ⟨p.val, by omega⟩ q) = x (ix2 p q) := by
  pointwise [k0_pay6]
theorem pay6_gb (x : Vec Ideal S32x1024 .f32) (y : Vec Ideal S16x1024 .f32) (p : Fin 16) (q : Fin 1024) :
    k0_pay6 x y (ix2 ⟨32 + p.val, by omega⟩ q) = y (ix2 p q) := by
  pointwise [k0_pay6]
theorem pay6_zero (x : Vec Ideal S32x1024 .f32) (y : Vec Ideal S16x1024 .f32) (p : Fin 80) (q : Fin 1024) :
    k0_pay6 x y (ix2 ⟨48 + p.val, by omega⟩ q) = 0 := by
  pointwise [k0_pay6]
  rw [dif_neg (by omega), dif_neg (by omega)]

end Cert.InProj

end
-- ==== Proof.InProj.RunA.lean ====
module

public import proofs.«01_k».proof.Proof.InProj.Tile

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the first point: it starts the first blocks, computes the modulation rows and lays out the weights' rows in the scratch,
    and leaves the two outputs' buffers at the first block's tiles. -/
theorem runA (c : Dev nD) (t : Fin cfg0.N) (arg3 : Memref sig .tc .vmem S1x1024 .f32) (harg3 : arg3.IsWhole) (arg4 : Memref sig .tc .vmem S2x1024 .f32) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1x1024 .f32) (harg7 : arg7.IsWhole) (arg8 : Memref sig .tc .vmem S3120x1024 .f32) (harg8 : arg8.IsWhole) (arg9 : Memref sig .tc .vmem S512x1152 .f32) (harg9 : arg9.IsWhole) (arg10 : Memref sig .tc .vmem S512x2048 .bf16) (harg10 : arg10.IsWhole) (arg11 : Memref sig .tc .vmem S3200x1024 .bf16) (harg11 : arg11.IsWhole) (arg12 : Memref sig .tc .vmem S8x2048 .f32) (harg12 : arg12.IsWhole) (hc0 : cond0_0 (grid0.coords t)) (hc1 : cond0_1 (grid0.coords t)) (hc2 : ¬cond0_2 (grid0.coords t)) (hc3 : cond0_3 (grid0.coords t)) (hc4 : ¬cond0_4 (grid0.coords t)) (hc5 : cond0_5 (grid0.coords t)) (hc6 : ¬cond0_6 (grid0.coords t)) (hc7 : cond0_7 (grid0.coords t)) (hc8 : cond0_8 (grid0.coords t)) (hc9 : ¬cond0_9 (grid0.coords t)) (hc10 : cond0_10 (grid0.coords t)) (hc11 : cond0_11 (grid0.coords t)) (hc12 : ¬cond0_12 (grid0.coords t))
    (x0 : Vec F S1x1024 .f32) (x1 : Vec F S2x1024 .f32) (x2 : Vec F S1024x2048 .f32) (x3 : Vec F S1x2048 .f32) (x4 : Vec F S1x1024 .f32) (x5 : Vec F S3120x1024 .f32) (WC : HbBuf (F := F) c hbC) (WL : HbBuf (F := F) c hbL)
    (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ Ring.free (cellP c) (slotW c WC WL) (Ring.sl 4 t.val) ∗ Ring.free (cellP c) (slotW c WC WL) (Ring.sl 4 (t.val + 1)) ∗ Ring.free (cellP c) (slotW c WC WL) (Ring.sl 4 (t.val + 2)) ∗ Ring.free (cellP c) (slotW c WC WL) (Ring.sl 4 (t.val + 3)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (zfT (grid0.coords t) (mdOf x0 x1 x2 x3) (wbOf x5) x4 ((srcC (Ring.bk 12 t.val)).view.read (Elt F) WC)) ∗ owns (c : Thread nD τ) arg10 fullShare (zhT (grid0.coords t) (mdOf x0 x1 x2 x3) (wbOf x5) x4 ((srcC (Ring.bk 12 t.val)).view.read (Elt F) WC)) ∗ owns (c : Thread nD τ) arg11 fullShare (wbOf x5) ∗ owns (c : Thread nD τ) arg12 fullShare (mdOf x0 x1 x2 x3) ∗ Ring.inflight (flightWC c WC WL) (Ring.sl 4 (t.val + 1)) (Ring.bk 12 (t.val + 1)) ∗ Ring.inflight (flightWC c WC WL) (Ring.sl 4 (t.val + 2)) (Ring.bk 12 (t.val + 2)) ∗ Ring.inflight (flightWC c WC WL) (Ring.sl 4 (t.val + 3)) (Ring.bk 12 (t.val + 3)) ∗ Ring.free (cellP c) (slotW c WC WL) (Ring.sl 4 t.val) ∗ (∃ W', owes (c : Thread nD τ) 0 W')) -∗ K ⟨⟩))
      ⊢ wp frame (wpE (defs₀ (F := F)) Variants.none c none) Set.univ (cc0_norm_inproj (grid0.coords t) (Memref.whole main_v0) (Memref.isWhole_whole _) (Memref.whole main_v1) (Memref.isWhole_whole _) arg3 harg3 arg4 harg4 arg5 harg5 arg6 harg6 arg7 harg7 arg8 harg8 arg9 harg9 arg10 harg10 arg11 harg11 arg12 harg12 scM0_2 (Memref.isWhole_whole _) cc0_scratch3) K := by
  haveI : Fact (cond0_0 (grid0.coords t)) := ⟨hc0⟩
  haveI : Fact (cond0_1 (grid0.coords t)) := ⟨hc1⟩
  haveI : Fact (¬cond0_2 (grid0.coords t)) := ⟨hc2⟩
  haveI : Fact (cond0_3 (grid0.coords t)) := ⟨hc3⟩
  haveI : Fact (¬cond0_4 (grid0.coords t)) := ⟨hc4⟩
  haveI : Fact (cond0_5 (grid0.coords t)) := ⟨hc5⟩
  haveI : Fact (¬cond0_6 (grid0.coords t)) := ⟨hc6⟩
  haveI : Fact (cond0_7 (grid0.coords t)) := ⟨hc7⟩
  haveI : Fact (cond0_8 (grid0.coords t)) := ⟨hc8⟩
  haveI : Fact (¬cond0_9 (grid0.coords t)) := ⟨hc9⟩
  haveI : Fact (cond0_10 (grid0.coords t)) := ⟨hc10⟩
  haveI : Fact (cond0_11 (grid0.coords t)) := ⟨hc11⟩
  haveI : Fact (¬cond0_12 (grid0.coords t)) := ⟨hc12⟩
  simp only [cc0_norm_inproj_eq_skeleton]; unfold cc0_norm_inproj_skel
  simp only [k0_part3_eq_skeleton, k0_part4_eq_skeleton, k0_part1_eq_skeleton, k0_part2_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨Hc0, ⟨%ft0, Hs0, HwC0, HwL0⟩⟩, ⟨Hc1, ⟨%ft1, Hs1, HwC1, HwL1⟩⟩, ⟨Hc2, ⟨%ft2, Hs2, HwC2, HwL2⟩⟩, ⟨Hc3, ⟨%ft3, Hs3, HwC3, HwL3⟩⟩, HW, Hk⟩
  ihave Hsp0 := (srcC_split c WC (Ring.sl 4 t.val) (Ring.bk 12 t.val)).1 $$ HwC0
  icases Hsp0 with ⟨Hh0, Hr0⟩
  ihave Hsp1 := (srcC_split c WC (Ring.sl 4 (t.val + 1)) (Ring.bk 12 (t.val + 1))).1 $$ HwC1
  icases Hsp1 with ⟨Hh1, Hr1⟩
  ihave Hsp2 := (srcC_split c WC (Ring.sl 4 (t.val + 2)) (Ring.bk 12 (t.val + 2))).1 $$ HwC2
  icases Hsp2 with ⟨Hh2, Hr2⟩
  ihave Hsp3 := (srcC_split c WC (Ring.sl 4 (t.val + 3)) (Ring.bk 12 (t.val + 3))).1 $$ HwC3
  icases Hsp3 with ⟨Hh3, Hr3⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12)
  sl_step
  have e0 : ∀ inb, View.readAt (Elt F) arg3.view (Rect.unit (s := S1x1024) ![0, 0] ![1, 1024] inb).toLoadRect (harg3.unread x0) = x0 :=
    fun inb => (View.readAt_full _ _ inb).trans (harg3.read_unread _)
  have e2 : ∀ inb, View.readAt (Elt F) arg5.view (Rect.unit (s := S1024x2048) ![0, 0] ![1024, 2048] inb).toLoadRect (harg5.unread x2) = x2 :=
    fun inb => (View.readAt_full _ _ inb).trans (harg5.read_unread _)
  have e3 : ∀ inb, View.readAt (Elt F) arg6.view (Rect.unit (s := S1x2048) ![0, 0] ![1, 2048] inb).toLoadRect (harg6.unread x3) = x3 :=
    fun inb => (View.readAt_full _ _ inb).trans (harg6.read_unread _)
  have e4 : ∀ inb, View.readAt (Elt F) arg7.view (Rect.unit (s := S1x1024) ![0, 0] ![1, 1024] inb).toLoadRect (harg7.unread x4) = x4 :=
    fun inb => (View.readAt_full _ _ inb).trans (harg7.read_unread _)
  have hwb : ∀ f, arg11.view.read (Elt F) (arg11.view.writes (Elt F) f (runA.sl.HS0_5 c arg8 harg8 x5)) = wbOf x5 := by
    intro f
    unfold runA.sl.HS0_5 runA.sl.r_1
    simp only [View.readAt_eq_ld, harg8.read_unread]
    exact read_wb _ _ _
  have hmd : ∀ f, arg12.view.read (Elt F) (arg12.view.writes (Elt F) f (runA.sl.HS1_1 c arg3 harg3 arg4 harg4 arg5 harg5 arg6 harg6 x0 x1 x2 x3)) = mdOf x0 x1 x2 x3 := by
    intro f
    unfold runA.sl.HS1_1 runA.sl.r mdOf
    refine (View.read_writes_full _ _ _ _ _).trans ?_
    simp only [e0, e2, e3]
    simp only [View.readAt_eq_ld, harg4.read_unread]
  have e40 : runA.sl.v40 c t arg3 harg3 arg4 harg4 arg5 harg5 arg6 harg6 arg12 x0 x1 x2 x3 = View.ld (mdOf x0 x1 x2 x3) (Rect.unit (s := S8x2048) (k0_off31 (grid0.coords t)) S1x1024.size (k0_off31_inb (grid0.coords t))) := by
    unfold runA.sl.v40
    try unfold View.readCov
    rw [View.readAt_eq_ld, hmd]
  have e42 : runA.sl.v42 c t arg3 harg3 arg4 harg4 arg5 harg5 arg6 harg6 arg12 x0 x1 x2 x3 = View.ld (mdOf x0 x1 x2 x3) (Rect.unit (s := S8x2048) (k0_off32 (grid0.coords t)) S1x1024.size (k0_off32_inb (grid0.coords t))) := by
    unfold runA.sl.v42
    try unfold View.readCov
    rw [View.readAt_eq_ld, hmd]
  have e68 : runA.sl.v68 c arg8 harg8 arg11 x5 = View.ld (wbOf x5) (Rect.unit (s := S3200x1024) ![0, 0] S1152x1024.size inb_S3200x1024_S1152x1024_0_0) := by
    unfold runA.sl.v68
    try unfold View.readCov
    rw [View.readAt_eq_ld, hwb]
  have e71 : runA.sl.v71 c arg8 harg8 arg11 x5 = View.ld (wbOf x5) (Rect.unit (s := S3200x1024) ![1152, 0] S2048x1024.size inb_S3200x1024_S2048x1024_1152_0) := by
    unfold runA.sl.v71
    try unfold View.readCov
    rw [View.readAt_eq_ld, hwb]
  have er : runA.sl.v45 c t WC = lead1 ((srcC (Ring.bk 12 t.val)).view.read (Elt F) WC) :=
    ring_read (Ring.sl 4 t.val) _ _ (coff_load t) _
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (View.read_writes_full _ _ _ _ _).trans ?_
    unfold zfT
    rw [e40, e42, e68, er, e4]
  isplitl [H7]
  · iexists _; isplitr; swap; · iexact H7
    ipureintro
    refine (View.read_writes_full _ _ _ _ _).trans ?_
    unfold zhT hT runA.sl.r_2
    rw [e40, e42, e71, er, e4]
  isplitl [HS0]
  · iexists _; isplitr; swap; · iexact HS0
    ipureintro; exact hwb _
  isplitl [HS1]
  · iexists _; isplitr; swap; · iexact HS1
    ipureintro; exact hmd _
  isplitl [Hc1 Hr1 HwL1]
  · iexists _; isplitl [Hc1]; · iexact Hc1
    isplitl [Hr1]; · iexact Hr1
    iexact HwL1
  isplitl [Hc2 Hr2 HwL2]
  · iexists _; isplitl [Hc2]; · iexact Hc2
    isplitl [Hr2]; · iexact Hr2
    iexact HwL2
  isplitl [Hc3 Hr3 HwL3]
  · iexists _; isplitl [Hc3]; · iexact Hc3
    isplitl [Hr3]; · iexact Hr3
    iexact HwL3
  isplitl [Hc0 Hs0 Hh0 Hr0 HwL0]
  · isplitl [Hc0]; · iexact Hc0
    iexists _; isplitl [Hs0]; · iexact Hs0
    isplitl [Hh0 Hr0]
    · iapply (srcC_split c WC (Ring.sl 4 t.val) (Ring.bk 12 t.val)).2; isplitl [Hh0]; · iexact Hh0
      iexact Hr0
    iexact HwL0
  iexists _; iexact HW

end Cert.InProj

end
-- ==== Proof.InProj.RunB.lean ====
module

public import proofs.«01_k».proof.Proof.InProj.Tile

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a point that waits a block of context tokens and starts another: the two outputs' buffers end at the tiles of the block it waited, the scratch stays as it was. -/
theorem runB (c : Dev nD) (t : Fin cfg0.N) (arg3 : Memref sig .tc .vmem S1x1024 .f32) (harg3 : arg3.IsWhole) (arg4 : Memref sig .tc .vmem S2x1024 .f32) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1x1024 .f32) (harg7 : arg7.IsWhole) (arg8 : Memref sig .tc .vmem S3120x1024 .f32) (harg8 : arg8.IsWhole) (arg9 : Memref sig .tc .vmem S512x1152 .f32) (harg9 : arg9.IsWhole) (arg10 : Memref sig .tc .vmem S512x2048 .bf16) (harg10 : arg10.IsWhole) (arg11 : Memref sig .tc .vmem S3200x1024 .bf16) (harg11 : arg11.IsWhole) (arg12 : Memref sig .tc .vmem S8x2048 .f32) (harg12 : arg12.IsWhole) (hc0 : ¬cond0_0 (grid0.coords t)) (hc7 : cond0_7 (grid0.coords t)) (hc8 : cond0_8 (grid0.coords t)) (hc9 : ¬cond0_9 (grid0.coords t)) (hc10 : ¬cond0_10 (grid0.coords t)) (hc11 : cond0_11 (grid0.coords t)) (hc12 : ¬cond0_12 (grid0.coords t))
    (x4 : Vec F S1x1024 .f32) (wb : Vec F S3200x1024 .bf16) (md : Vec F S8x2048 .f32) (WC : HbBuf (F := F) c hbC) (WL : HbBuf (F := F) c hbL)
    (W : Waits sig Unit) (K : PUnit → sProp 𝕄) :
    iprop(owns (c : Thread nD τ) arg7 fullShare x4 ∗ (∃ d, owns (c : Thread nD τ) arg9 fullShare d) ∗ (∃ d, owns (c : Thread nD τ) arg10 fullShare d) ∗ owns (c : Thread nD τ) arg11 fullShare wb ∗ owns (c : Thread nD τ) arg12 fullShare md ∗ Ring.inflight (flightWC c WC WL) (Ring.sl 4 t.val) (Ring.bk 12 t.val) ∗ Ring.free (cellP c) (slotW c WC WL) (Ring.sl 4 (t.val + 3)) ∗ owes (c : Thread nD τ) 0 W
            ∗ (iprop(owns (c : Thread nD τ) arg7 fullShare x4 ∗ owns (c : Thread nD τ) arg9 fullShare (zfT (grid0.coords t) md wb x4 ((srcC (Ring.bk 12 t.val)).view.read (Elt F) WC)) ∗ owns (c : Thread nD τ) arg10 fullShare (zhT (grid0.coords t) md wb x4 ((srcC (Ring.bk 12 t.val)).view.read (Elt F) WC)) ∗ owns (c : Thread nD τ) arg11 fullShare wb ∗ owns (c : Thread nD τ) arg12 fullShare md ∗ Ring.inflight (flightWC c WC WL) (Ring.sl 4 (t.val + 3)) (Ring.bk 12 (t.val + 3)) ∗ Ring.free (cellP c) (slotW c WC WL) (Ring.sl 4 t.val) ∗ (∃ W', owes (c : Thread nD τ) 0 W')) -∗ K ⟨⟩))
      ⊢ wp frame (wpE (defs₀ (F := F)) Variants.none c none) Set.univ (cc0_norm_inproj (grid0.coords t) (Memref.whole main_v0) (Memref.isWhole_whole _) (Memref.whole main_v1) (Memref.isWhole_whole _) arg3 harg3 arg4 harg4 arg5 harg5 arg6 harg6 arg7 harg7 arg8 harg8 arg9 harg9 arg10 harg10 arg11 harg11 arg12 harg12 scM0_2 (Memref.isWhole_whole _) cc0_scratch3) K := by
  haveI : Fact (¬cond0_0 (grid0.coords t)) := ⟨hc0⟩
  haveI : Fact (cond0_7 (grid0.coords t)) := ⟨hc7⟩
  haveI : Fact (cond0_8 (grid0.coords t)) := ⟨hc8⟩
  haveI : Fact (¬cond0_9 (grid0.coords t)) := ⟨hc9⟩
  haveI : Fact (¬cond0_10 (grid0.coords t)) := ⟨hc10⟩
  haveI : Fact (cond0_11 (grid0.coords t)) := ⟨hc11⟩
  haveI : Fact (¬cond0_12 (grid0.coords t)) := ⟨hc12⟩
  simp only [cc0_norm_inproj_eq_skeleton]; unfold cc0_norm_inproj_skel
  simp only [k0_part3_eq_skeleton, k0_part4_eq_skeleton]
  unfold owns Ring.free Ring.inflight
  iintro ⟨⟨%f4, %hf4, H4⟩, ⟨%d6, %f6, -, H6⟩, ⟨%d7, %f7, -, H7⟩, ⟨%fs0, %hs0, HS0⟩, ⟨%fs1, %hs1, HS1⟩, ⟨%ff, Hf, Hrf, Hof⟩, ⟨Hc3, ⟨%fs3, Hs3, HwC, HwL⟩⟩, HW, Hk⟩
  ihave Hsp := (srcC_split c WC (Ring.sl 4 (t.val + 3)) (Ring.bk 12 (t.val + 3))).1 $$ HwC
  icases Hsp with ⟨Hh3, Hr3⟩
  obtain rfl := harg7.eq_unread hf4; obtain rfl := harg11.eq_unread hs0; obtain rfl := harg12.eq_unread hs1
  sl_exec (disch := first | sl_exact hc0 | sl_exact hc7 | sl_exact hc8 | sl_exact hc9 | sl_exact hc10 | sl_exact hc11 | sl_exact hc12)
  sl_step
  iapply Hk
  isplitl [H4]
  · iexists _; isplitr; · ipureintro; exact harg7.read_unread _
    iexact H4
  isplitl [H6]
  · iexists _; isplitr; swap; · iexact H6
    ipureintro
    refine (View.read_writes_full _ _ _ _ _).trans ?_
    unfold zfT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runB.sl.v45 c t WC = lead1 ((srcC (Ring.bk 12 t.val)).view.read (Elt F) WC) :=
      ring_read (Ring.sl 4 t.val) _ _ (coff_load t) _
    simp only [er, e4]
    simp only [View.readAt_eq_ld, harg11.read_unread, harg12.read_unread]
  isplitl [H7]
  · iexists _; isplitr; swap; · iexact H7
    ipureintro
    refine (View.read_writes_full _ _ _ _ _).trans ?_
    unfold zhT hT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runB.sl.v45 c t WC = lead1 ((srcC (Ring.bk 12 t.val)).view.read (Elt F) WC) :=
      ring_read (Ring.sl 4 t.val) _ _ (coff_load t) _
    unfold runB.sl.r
    simp only [er, e4]
    simp only [View.readAt_eq_ld, harg11.read_unread, harg12.read_unread]
  isplitl [HS0]
  · iexists _; isplitr; · ipureintro; exact harg11.read_unread _
    iexact HS0
  isplitl [HS1]
  · iexists _; isplitr; · ipureintro; exact harg12.read_unread _
    iexact HS1
  isplitl [Hc3 Hr3 HwL]
  · iexists _; isplitl [Hc3]; · iexact Hc3
    isplitl [Hr3]; · iexact Hr3
    iexact HwL
  isplitl [Hf Hf_dst Hf_src Hrf Hof]
  · isplitl [Hf]; · iexact Hf
    iexists _; isplitl [Hf_dst]; · iexact Hf_dst
    isplitl [Hf_src Hrf]
    · iapply (srcC_split c WC (Ring.sl 4 t.val) (Ring.bk 12 t.val)).2; isplitl [Hf_src]; · iexact Hf_src
      iexact Hrf
    iexact Hof
  iexists _; iexact HW

end Cert.InProj

end
-- ==== Proof.InProj.RunC.lean ====
module

public import proofs.«01_k».proof.Proof.InProj.Tile

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a point that waits a block of context tokens and starts one of latent tokens: the two outputs' buffers end at the tiles of the block it waited, the scratch stays as it was. -/
theorem runC (c : Dev nD) (t : Fin cfg0.N) (arg3 : Memref sig .tc .vmem S1x1024 .f32) (harg3 : arg3.IsWhole) (arg4 : Memref sig .tc .vmem S2x1024 .f32) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1x1024 .f32) (harg7 : arg7.IsWhole) (arg8 : Memref sig .tc .vmem S3120x1024 .f32) (harg8 : arg8.IsWhole) (arg9 : Memref sig .tc .vmem S512x1152 .f32) (harg9 : arg9.IsWhole) (arg10 : Memref sig .tc .vmem S512x2048 .bf16) (harg10 : arg10.IsWhole) (arg11 : Memref sig .tc .vmem S3200x1024 .bf16) (harg11 : arg11.IsWhole) (arg12 : Memref sig .tc .vmem S8x2048 .f32) (harg12 : arg12.IsWhole) (hc0 : ¬cond0_0 (grid0.coords t)) (hc7 : cond0_7 (grid0.coords t)) (hc8 : ¬cond0_8 (grid0.coords t)) (hc9 : cond0_9 (grid0.coords t)) (hc10 : ¬cond0_10 (grid0.coords t)) (hc11 : cond0_11 (grid0.coords t)) (hc12 : ¬cond0_12 (grid0.coords t))
    (x4 : Vec F S1x1024 .f32) (wb : Vec F S3200x1024 .bf16) (md : Vec F S8x2048 .f32) (WC : HbBuf (F := F) c hbC) (WL : HbBuf (F := F) c hbL)
    (W : Waits sig Unit) (K : PUnit → sProp 𝕄) :
    iprop(owns (c : Thread nD τ) arg7 fullShare x4 ∗ (∃ d, owns (c : Thread nD τ) arg9 fullShare d) ∗ (∃ d, owns (c : Thread nD τ) arg10 fullShare d) ∗ owns (c : Thread nD τ) arg11 fullShare wb ∗ owns (c : Thread nD τ) arg12 fullShare md ∗ Ring.inflight (flightWC c WC WL) (Ring.sl 4 t.val) (Ring.bk 12 t.val) ∗ Ring.free (cellP c) (slotW c WC WL) (Ring.sl 4 (t.val + 3)) ∗ owes (c : Thread nD τ) 0 W
            ∗ (iprop(owns (c : Thread nD τ) arg7 fullShare x4 ∗ owns (c : Thread nD τ) arg9 fullShare (zfT (grid0.coords t) md wb x4 ((srcC (Ring.bk 12 t.val)).view.read (Elt F) WC)) ∗ owns (c : Thread nD τ) arg10 fullShare (zhT (grid0.coords t) md wb x4 ((srcC (Ring.bk 12 t.val)).view.read (Elt F) WC)) ∗ owns (c : Thread nD τ) arg11 fullShare wb ∗ owns (c : Thread nD τ) arg12 fullShare md ∗ Ring.inflight (flightWL c WC WL) (Ring.sl 4 (t.val + 3)) (Ring.bk 12 (t.val + 3)) ∗ Ring.free (cellP c) (slotW c WC WL) (Ring.sl 4 t.val) ∗ (∃ W', owes (c : Thread nD τ) 0 W')) -∗ K ⟨⟩))
      ⊢ wp frame (wpE (defs₀ (F := F)) Variants.none c none) Set.univ (cc0_norm_inproj (grid0.coords t) (Memref.whole main_v0) (Memref.isWhole_whole _) (Memref.whole main_v1) (Memref.isWhole_whole _) arg3 harg3 arg4 harg4 arg5 harg5 arg6 harg6 arg7 harg7 arg8 harg8 arg9 harg9 arg10 harg10 arg11 harg11 arg12 harg12 scM0_2 (Memref.isWhole_whole _) cc0_scratch3) K := by
  haveI : Fact (¬cond0_0 (grid0.coords t)) := ⟨hc0⟩
  haveI : Fact (cond0_7 (grid0.coords t)) := ⟨hc7⟩
  haveI : Fact (¬cond0_8 (grid0.coords t)) := ⟨hc8⟩
  haveI : Fact (cond0_9 (grid0.coords t)) := ⟨hc9⟩
  haveI : Fact (¬cond0_10 (grid0.coords t)) := ⟨hc10⟩
  haveI : Fact (cond0_11 (grid0.coords t)) := ⟨hc11⟩
  haveI : Fact (¬cond0_12 (grid0.coords t)) := ⟨hc12⟩
  simp only [cc0_norm_inproj_eq_skeleton]; unfold cc0_norm_inproj_skel
  simp only [k0_part3_eq_skeleton, k0_part4_eq_skeleton]
  unfold owns Ring.free Ring.inflight
  iintro ⟨⟨%f4, %hf4, H4⟩, ⟨%d6, %f6, -, H6⟩, ⟨%d7, %f7, -, H7⟩, ⟨%fs0, %hs0, HS0⟩, ⟨%fs1, %hs1, HS1⟩, ⟨%ff, Hf, Hrf, Hof⟩, ⟨Hc3, ⟨%fs3, Hs3, HwC, HwL⟩⟩, HW, Hk⟩
  ihave Hsp := (srcL_split c WL (Ring.sl 4 (t.val + 3)) (Ring.bk 12 (t.val + 3))).1 $$ HwL
  icases Hsp with ⟨Hh3, Hr3⟩
  obtain rfl := harg7.eq_unread hf4; obtain rfl := harg11.eq_unread hs0; obtain rfl := harg12.eq_unread hs1
  sl_exec (disch := first | sl_exact hc0 | sl_exact hc7 | sl_exact hc8 | sl_exact hc9 | sl_exact hc10 | sl_exact hc11 | sl_exact hc12)
  sl_step
  iapply Hk
  isplitl [H4]
  · iexists _; isplitr; · ipureintro; exact harg7.read_unread _
    iexact H4
  isplitl [H6]
  · iexists _; isplitr; swap; · iexact H6
    ipureintro
    refine (View.read_writes_full _ _ _ _ _).trans ?_
    unfold zfT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runC.sl.v45 c t WC = lead1 ((srcC (Ring.bk 12 t.val)).view.read (Elt F) WC) :=
      ring_read (Ring.sl 4 t.val) _ _ (coff_load t) _
    simp only [er, e4]
    simp only [View.readAt_eq_ld, harg11.read_unread, harg12.read_unread]
  isplitl [H7]
  · iexists _; isplitr; swap; · iexact H7
    ipureintro
    refine (View.read_writes_full _ _ _ _ _).trans ?_
    unfold zhT hT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runC.sl.v45 c t WC = lead1 ((srcC (Ring.bk 12 t.val)).view.read (Elt F) WC) :=
      ring_read (Ring.sl 4 t.val) _ _ (coff_load t) _
    unfold runC.sl.r
    simp only [er, e4]
    simp only [View.readAt_eq_ld, harg11.read_unread, harg12.read_unread]
  isplitl [HS0]
  · iexists _; isplitr; · ipureintro; exact harg11.read_unread _
    iexact HS0
  isplitl [HS1]
  · iexists _; isplitr; · ipureintro; exact harg12.read_unread _
    iexact HS1
  isplitl [Hc3 Hr3 HwC]
  · iexists _; isplitl [Hc3]; · iexact Hc3
    isplitl [Hr3]; · iexact Hr3
    iexact HwC
  isplitl [Hf Hf_dst Hf_src Hrf Hof]
  · isplitl [Hf]; · iexact Hf
    iexists _; isplitl [Hf_dst]; · iexact Hf_dst
    isplitl [Hf_src Hrf]
    · iapply (srcC_split c WC (Ring.sl 4 t.val) (Ring.bk 12 t.val)).2; isplitl [Hf_src]; · iexact Hf_src
      iexact Hrf
    iexact Hof
  iexists _; iexact HW

end Cert.InProj

end
-- ==== Proof.InProj.RunD.lean ====
module

public import proofs.«01_k».proof.Proof.InProj.Tile

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a point that waits a block of latent tokens and starts another: the two outputs' buffers end at the tiles of the block it waited, the scratch stays as it was. -/
theorem runD (c : Dev nD) (t : Fin cfg0.N) (arg3 : Memref sig .tc .vmem S1x1024 .f32) (harg3 : arg3.IsWhole) (arg4 : Memref sig .tc .vmem S2x1024 .f32) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1x1024 .f32) (harg7 : arg7.IsWhole) (arg8 : Memref sig .tc .vmem S3120x1024 .f32) (harg8 : arg8.IsWhole) (arg9 : Memref sig .tc .vmem S512x1152 .f32) (harg9 : arg9.IsWhole) (arg10 : Memref sig .tc .vmem S512x2048 .bf16) (harg10 : arg10.IsWhole) (arg11 : Memref sig .tc .vmem S3200x1024 .bf16) (harg11 : arg11.IsWhole) (arg12 : Memref sig .tc .vmem S8x2048 .f32) (harg12 : arg12.IsWhole) (hc0 : ¬cond0_0 (grid0.coords t)) (hc7 : cond0_7 (grid0.coords t)) (hc8 : ¬cond0_8 (grid0.coords t)) (hc9 : cond0_9 (grid0.coords t)) (hc10 : ¬cond0_10 (grid0.coords t)) (hc11 : ¬cond0_11 (grid0.coords t)) (hc12 : cond0_12 (grid0.coords t))
    (x4 : Vec F S1x1024 .f32) (wb : Vec F S3200x1024 .bf16) (md : Vec F S8x2048 .f32) (WC : HbBuf (F := F) c hbC) (WL : HbBuf (F := F) c hbL)
    (W : Waits sig Unit) (K : PUnit → sProp 𝕄) :
    iprop(owns (c : Thread nD τ) arg7 fullShare x4 ∗ (∃ d, owns (c : Thread nD τ) arg9 fullShare d) ∗ (∃ d, owns (c : Thread nD τ) arg10 fullShare d) ∗ owns (c : Thread nD τ) arg11 fullShare wb ∗ owns (c : Thread nD τ) arg12 fullShare md ∗ Ring.inflight (flightWL c WC WL) (Ring.sl 4 t.val) (Ring.bk 12 t.val) ∗ Ring.free (cellP c) (slotW c WC WL) (Ring.sl 4 (t.val + 3)) ∗ owes (c : Thread nD τ) 0 W
            ∗ (iprop(owns (c : Thread nD τ) arg7 fullShare x4 ∗ owns (c : Thread nD τ) arg9 fullShare (zfT (grid0.coords t) md wb x4 ((srcL (Ring.bk 12 t.val)).view.read (Elt F) WL)) ∗ owns (c : Thread nD τ) arg10 fullShare (zhT (grid0.coords t) md wb x4 ((srcL (Ring.bk 12 t.val)).view.read (Elt F) WL)) ∗ owns (c : Thread nD τ) arg11 fullShare wb ∗ owns (c : Thread nD τ) arg12 fullShare md ∗ Ring.inflight (flightWL c WC WL) (Ring.sl 4 (t.val + 3)) (Ring.bk 12 (t.val + 3)) ∗ Ring.free (cellP c) (slotW c WC WL) (Ring.sl 4 t.val) ∗ (∃ W', owes (c : Thread nD τ) 0 W')) -∗ K ⟨⟩))
      ⊢ wp frame (wpE (defs₀ (F := F)) Variants.none c none) Set.univ (cc0_norm_inproj (grid0.coords t) (Memref.whole main_v0) (Memref.isWhole_whole _) (Memref.whole main_v1) (Memref.isWhole_whole _) arg3 harg3 arg4 harg4 arg5 harg5 arg6 harg6 arg7 harg7 arg8 harg8 arg9 harg9 arg10 harg10 arg11 harg11 arg12 harg12 scM0_2 (Memref.isWhole_whole _) cc0_scratch3) K := by
  haveI : Fact (¬cond0_0 (grid0.coords t)) := ⟨hc0⟩
  haveI : Fact (cond0_7 (grid0.coords t)) := ⟨hc7⟩
  haveI : Fact (¬cond0_8 (grid0.coords t)) := ⟨hc8⟩
  haveI : Fact (cond0_9 (grid0.coords t)) := ⟨hc9⟩
  haveI : Fact (¬cond0_10 (grid0.coords t)) := ⟨hc10⟩
  haveI : Fact (¬cond0_11 (grid0.coords t)) := ⟨hc11⟩
  haveI : Fact (cond0_12 (grid0.coords t)) := ⟨hc12⟩
  simp only [cc0_norm_inproj_eq_skeleton]; unfold cc0_norm_inproj_skel
  simp only [k0_part3_eq_skeleton, k0_part4_eq_skeleton]
  unfold owns Ring.free Ring.inflight
  iintro ⟨⟨%f4, %hf4, H4⟩, ⟨%d6, %f6, -, H6⟩, ⟨%d7, %f7, -, H7⟩, ⟨%fs0, %hs0, HS0⟩, ⟨%fs1, %hs1, HS1⟩, ⟨%ff, Hf, Hrf, Hof⟩, ⟨Hc3, ⟨%fs3, Hs3, HwC, HwL⟩⟩, HW, Hk⟩
  ihave Hsp := (srcL_split c WL (Ring.sl 4 (t.val + 3)) (Ring.bk 12 (t.val + 3))).1 $$ HwL
  icases Hsp with ⟨Hh3, Hr3⟩
  obtain rfl := harg7.eq_unread hf4; obtain rfl := harg11.eq_unread hs0; obtain rfl := harg12.eq_unread hs1
  sl_exec (disch := first | sl_exact hc0 | sl_exact hc7 | sl_exact hc8 | sl_exact hc9 | sl_exact hc10 | sl_exact hc11 | sl_exact hc12)
  sl_step
  iapply Hk
  isplitl [H4]
  · iexists _; isplitr; · ipureintro; exact harg7.read_unread _
    iexact H4
  isplitl [H6]
  · iexists _; isplitr; swap; · iexact H6
    ipureintro
    refine (View.read_writes_full _ _ _ _ _).trans ?_
    unfold zfT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runD.sl.v45 c t WL = lead1 ((srcL (Ring.bk 12 t.val)).view.read (Elt F) WL) :=
      ring_read (Ring.sl 4 t.val) _ _ (coff_load t) _
    simp only [er, e4]
    simp only [View.readAt_eq_ld, harg11.read_unread, harg12.read_unread]
  isplitl [H7]
  · iexists _; isplitr; swap; · iexact H7
    ipureintro
    refine (View.read_writes_full _ _ _ _ _).trans ?_
    unfold zhT hT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runD.sl.v45 c t WL = lead1 ((srcL (Ring.bk 12 t.val)).view.read (Elt F) WL) :=
      ring_read (Ring.sl 4 t.val) _ _ (coff_load t) _
    unfold runD.sl.r
    simp only [er, e4]
    simp only [View.readAt_eq_ld, harg11.read_unread, harg12.read_unread]
  isplitl [HS0]
  · iexists _; isplitr; · ipureintro; exact harg11.read_unread _
    iexact HS0
  isplitl [HS1]
  · iexists _; isplitr; · ipureintro; exact harg12.read_unread _
    iexact HS1
  isplitl [Hc3 Hr3 HwC]
  · iexists _; isplitl [Hc3]; · iexact Hc3
    isplitl [Hr3]; · iexact Hr3
    iexact HwC
  isplitl [Hf Hf_dst Hf_src Hrf Hof]
  · isplitl [Hf]; · iexact Hf
    iexists _; isplitl [Hf_dst]; · iexact Hf_dst
    isplitl [Hof]; · iexact Hof
    iapply (srcL_split c WL (Ring.sl 4 t.val) (Ring.bk 12 t.val)).2; isplitl [Hf_src]; · iexact Hf_src
    iexact Hrf
  iexists _; iexact HW

end Cert.InProj

end
-- ==== Proof.InProj.RunE.lean ====
module

public import proofs.«01_k».proof.Proof.InProj.Tile

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a point that waits a block of latent tokens, none left to start: the two outputs' buffers end at the tiles of the block it waited, the scratch stays as it was. -/
theorem runE (c : Dev nD) (t : Fin cfg0.N) (arg3 : Memref sig .tc .vmem S1x1024 .f32) (harg3 : arg3.IsWhole) (arg4 : Memref sig .tc .vmem S2x1024 .f32) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1x1024 .f32) (harg7 : arg7.IsWhole) (arg8 : Memref sig .tc .vmem S3120x1024 .f32) (harg8 : arg8.IsWhole) (arg9 : Memref sig .tc .vmem S512x1152 .f32) (harg9 : arg9.IsWhole) (arg10 : Memref sig .tc .vmem S512x2048 .bf16) (harg10 : arg10.IsWhole) (arg11 : Memref sig .tc .vmem S3200x1024 .bf16) (harg11 : arg11.IsWhole) (arg12 : Memref sig .tc .vmem S8x2048 .f32) (harg12 : arg12.IsWhole) (hc0 : ¬cond0_0 (grid0.coords t)) (hc7 : ¬cond0_7 (grid0.coords t)) (hc10 : ¬cond0_10 (grid0.coords t)) (hc11 : ¬cond0_11 (grid0.coords t)) (hc12 : cond0_12 (grid0.coords t))
    (x4 : Vec F S1x1024 .f32) (wb : Vec F S3200x1024 .bf16) (md : Vec F S8x2048 .f32) (WC : HbBuf (F := F) c hbC) (WL : HbBuf (F := F) c hbL)
    (W : Waits sig Unit) (K : PUnit → sProp 𝕄) :
    iprop(owns (c : Thread nD τ) arg7 fullShare x4 ∗ (∃ d, owns (c : Thread nD τ) arg9 fullShare d) ∗ (∃ d, owns (c : Thread nD τ) arg10 fullShare d) ∗ owns (c : Thread nD τ) arg11 fullShare wb ∗ owns (c : Thread nD τ) arg12 fullShare md ∗ Ring.inflight (flightWL c WC WL) (Ring.sl 4 t.val) (Ring.bk 12 t.val) ∗ owes (c : Thread nD τ) 0 W
            ∗ (iprop(owns (c : Thread nD τ) arg7 fullShare x4 ∗ owns (c : Thread nD τ) arg9 fullShare (zfT (grid0.coords t) md wb x4 ((srcL (Ring.bk 12 t.val)).view.read (Elt F) WL)) ∗ owns (c : Thread nD τ) arg10 fullShare (zhT (grid0.coords t) md wb x4 ((srcL (Ring.bk 12 t.val)).view.read (Elt F) WL)) ∗ owns (c : Thread nD τ) arg11 fullShare wb ∗ owns (c : Thread nD τ) arg12 fullShare md ∗ Ring.free (cellP c) (slotW c WC WL) (Ring.sl 4 t.val) ∗ (∃ W', owes (c : Thread nD τ) 0 W')) -∗ K ⟨⟩))
      ⊢ wp frame (wpE (defs₀ (F := F)) Variants.none c none) Set.univ (cc0_norm_inproj (grid0.coords t) (Memref.whole main_v0) (Memref.isWhole_whole _) (Memref.whole main_v1) (Memref.isWhole_whole _) arg3 harg3 arg4 harg4 arg5 harg5 arg6 harg6 arg7 harg7 arg8 harg8 arg9 harg9 arg10 harg10 arg11 harg11 arg12 harg12 scM0_2 (Memref.isWhole_whole _) cc0_scratch3) K := by
  haveI : Fact (¬cond0_0 (grid0.coords t)) := ⟨hc0⟩
  haveI : Fact (¬cond0_7 (grid0.coords t)) := ⟨hc7⟩
  haveI : Fact (¬cond0_10 (grid0.coords t)) := ⟨hc10⟩
  haveI : Fact (¬cond0_11 (grid0.coords t)) := ⟨hc11⟩
  haveI : Fact (cond0_12 (grid0.coords t)) := ⟨hc12⟩
  simp only [cc0_norm_inproj_eq_skeleton]; unfold cc0_norm_inproj_skel
  simp only [k0_part3_eq_skeleton, k0_part4_eq_skeleton]
  unfold owns Ring.free Ring.inflight
  iintro ⟨⟨%f4, %hf4, H4⟩, ⟨%d6, %f6, -, H6⟩, ⟨%d7, %f7, -, H7⟩, ⟨%fs0, %hs0, HS0⟩, ⟨%fs1, %hs1, HS1⟩, ⟨%ff, Hf, Hrf, Hof⟩, HW, Hk⟩
  obtain rfl := harg7.eq_unread hf4; obtain rfl := harg11.eq_unread hs0; obtain rfl := harg12.eq_unread hs1
  sl_exec (disch := first | sl_exact hc0 | sl_exact hc7 | sl_exact hc10 | sl_exact hc11 | sl_exact hc12)
  sl_step
  iapply Hk
  isplitl [H4]
  · iexists _; isplitr; · ipureintro; exact harg7.read_unread _
    iexact H4
  isplitl [H6]
  · iexists _; isplitr; swap; · iexact H6
    ipureintro
    refine (View.read_writes_full _ _ _ _ _).trans ?_
    unfold zfT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runE.sl.v45 c t WL = lead1 ((srcL (Ring.bk 12 t.val)).view.read (Elt F) WL) :=
      ring_read (Ring.sl 4 t.val) _ _ (coff_load t) _
    simp only [er, e4]
    simp only [View.readAt_eq_ld, harg11.read_unread, harg12.read_unread]
  isplitl [H7]
  · iexists _; isplitr; swap; · iexact H7
    ipureintro
    refine (View.read_writes_full _ _ _ _ _).trans ?_
    unfold zhT hT
    have e4 : ∀ inb, View.readAt (Elt F) arg7.view (Rect.unit (s := S1x1024) ![0, 0] ![1, 1024] inb).toLoadRect (harg7.unread x4) = x4 :=
      fun inb => (View.readAt_full _ _ inb).trans (harg7.read_unread _)
    have er : runE.sl.v45 c t WL = lead1 ((srcL (Ring.bk 12 t.val)).view.read (Elt F) WL) :=
      ring_read (Ring.sl 4 t.val) _ _ (coff_load t) _
    unfold runE.sl.r
    simp only [er, e4]
    simp only [View.readAt_eq_ld, harg11.read_unread, harg12.read_unread]
  isplitl [HS0]
  · iexists _; isplitr; · ipureintro; exact harg11.read_unread _
    iexact HS0
  isplitl [HS1]
  · iexists _; isplitr; · ipureintro; exact harg12.read_unread _
    iexact HS1
  isplitl [Hf Hf_dst Hf_src Hrf Hof]
  · isplitl [Hf]; · iexact Hf
    iexists _; isplitl [Hf_dst]; · iexact Hf_dst
    isplitl [Hof]; · iexact Hof
    iapply (srcL_split c WL (Ring.sl 4 t.val) (Ring.bk 12 t.val)).2; isplitl [Hf_src]; · iexact Hf_src
    iexact Hrf
  iexists _; iexact HW

end Cert.InProj

end
-- ==== Proof.InProj.Frame.lean ====
module

public import proofs.«01_k».proof.Proof.InProj.RunA
public import proofs.«01_k».proof.Proof.InProj.RunB
public import proofs.«01_k».proof.Proof.InProj.RunC
public import proofs.«01_k».proof.Proof.InProj.RunD
public import proofs.«01_k».proof.Proof.InProj.RunE
public import Idealize.ShloMosaic.Lib.Claim

/-! The input projection run as one pipeline of twelve points, a block of 512 tokens each: eight of context tokens, then
four of latent tokens.  The first point leaves the modulation rows and the laid-out weights in scratch for the others. -/

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first grid point. -/
def p0 : Fin cfg0.N := ⟨0, lt_of_lt_of_eq (by decide) (show 12 = cfg0.N from N_0.symm)⟩

/-- The modulation rows the first point computes. -/
def mdW (c : Dev nD) : Vec F S8x2048 .f32 := mdOf (iblk m c 0 p0) (iblk m c 1 p0) (iblk m c 2 p0) (iblk m c 3 p0)

/-- The weights as the first point lays them out. -/
def wbW (c : Dev nD) : Vec F S3200x1024 .bf16 := wbOf (iblk m c 5 p0)

/-- The tokens of point `t`. -/
def tok (c : Dev nD) (t : Fin cfg0.N) : Vec F S512x1024 .f32 :=
  if t.val < 8 then (srcC (Ring.bk 12 t.val)).view.read (Elt F) (V m c main_v0)
  else (srcL (Ring.bk 12 t.val)).view.read (Elt F) (V m c main_v1)

/-- Point `t`'s tile of the first output. -/
def zfAt (c : Dev nD) (t : Fin cfg0.N) : Vec F S512x1152 .f32 :=
  zfT (grid0.coords t) (mdW m c) (wbW m c) (iblk m c 4 t) (tok m c t)

/-- Point `t`'s tile of the second output. -/
def zhAt (c : Dev nD) (t : Fin cfg0.N) : Vec F S512x2048 .bf16 :=
  zhT (grid0.coords t) (mdW m c) (wbW m c) (iblk m c 4 t) (tok m c t)

theorem tok_C (c : Dev nD) (t : Fin cfg0.N) (h : t.val < 8) :
    tok m c t = (srcC (Ring.bk 12 t.val)).view.read (Elt F) (V m c main_v0) := if_pos h
theorem tok_L (c : Dev nD) (t : Fin cfg0.N) (h : ¬t.val < 8) :
    tok m c t = (srcL (Ring.bk 12 t.val)).view.read (Elt F) (V m c main_v1) := if_neg h

theorem mdW_at (c : Dev nD) (t : Fin cfg0.N) (h : t.val = 0) :
    mdW m c = mdOf (iblk m c 0 t) (iblk m c 1 t) (iblk m c 2 t) (iblk m c 3 t) := by
  have e : t = p0 := Fin.ext h
  rw [e]; rfl
theorem wbW_at (c : Dev nD) (t : Fin cfg0.N) (h : t.val = 0) : wbW m c = wbOf (iblk m c 5 t) := by
  have e : t = p0 := Fin.ext h
  rw [e]; rfl

/-- The scratch the first point fills, before point `k`: anything, then the weights and the modulation rows. -/
def kept (c : Dev nD) (k : ℕ) : sProp 𝕄 :=
  if k = 0 then iprop((∃ d, owns (c : Thread nD τ) scM0_0 fullShare d) ∗ (∃ d, owns (c : Thread nD τ) scM0_1 fullShare d))
  else iprop(owns (c : Thread nD τ) scM0_0 fullShare (wbW m c) ∗ owns (c : Thread nD τ) scM0_1 fullShare (mdW m c))

/-- What the body holds beside the windows before point `k`. -/
def held (c : Dev nD) (k : ℕ) : sProp 𝕄 :=
  iprop(kept m c k ∗ (∃ r, prngReg c r) ∗ ringAt c (V m c main_v0) (V m c main_v1) k)

/-- The proof data: inputs' buffers at their blocks, the outputs' at the point's tiles. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => zfAt m c t
    | ⟨7, _⟩ => zhAt m c t
  Φ t := held m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem held_here (c : Dev nD) (t : Fin cfg0.N) : (dats m 0 c).Φ t.castSucc = held m c t.val := by
  dsimp only [dats]; simp only [Fin.coe_castSucc]
theorem held_next (c : Dev nD) (t : Fin cfg0.N) : (dats m 0 c).Φ t.succ = held m c (t.val + 1) := by
  dsimp only [dats]; simp only [Fin.val_succ]

theorem leaves_0 (c : Dev nD) (t : Fin cfg0.N) : (dats m 0 c).after 0 t = iblk m c 0 t := by dsimp only [dats]
theorem leaves_1 (c : Dev nD) (t : Fin cfg0.N) : (dats m 0 c).after 1 t = iblk m c 1 t := by dsimp only [dats]
theorem leaves_2 (c : Dev nD) (t : Fin cfg0.N) : (dats m 0 c).after 2 t = iblk m c 2 t := by dsimp only [dats]
theorem leaves_3 (c : Dev nD) (t : Fin cfg0.N) : (dats m 0 c).after 3 t = iblk m c 3 t := by dsimp only [dats]
theorem leaves_4 (c : Dev nD) (t : Fin cfg0.N) : (dats m 0 c).after 4 t = iblk m c 4 t := by dsimp only [dats]
theorem leaves_5 (c : Dev nD) (t : Fin cfg0.N) : (dats m 0 c).after 5 t = iblk m c 5 t := by dsimp only [dats]
theorem leaves_6 (c : Dev nD) (t : Fin cfg0.N) : (dats m 0 c).after 6 t = zfAt m c t := by dsimp only [dats]
theorem leaves_7 (c : Dev nD) (t : Fin cfg0.N) : (dats m 0 c).after 7 t = zhAt m c t := by dsimp only [dats]

theorem finds_0 (c : Dev nD) (t : Fin cfg0.N) (d) : (dats m 0 c).before 0 t d = iblk m c 0 t :=
  staged0 m (dats m 0 c) (A_eq m c 0) (leaves_0 m c) t d
theorem finds_1 (c : Dev nD) (t : Fin cfg0.N) (d) : (dats m 0 c).before 1 t d = iblk m c 1 t :=
  staged1 m (dats m 0 c) (A_eq m c 1) (leaves_1 m c) t d
theorem finds_2 (c : Dev nD) (t : Fin cfg0.N) (d) : (dats m 0 c).before 2 t d = iblk m c 2 t :=
  staged2 m (dats m 0 c) (A_eq m c 2) (leaves_2 m c) t d
theorem finds_3 (c : Dev nD) (t : Fin cfg0.N) (d) : (dats m 0 c).before 3 t d = iblk m c 3 t :=
  staged3 m (dats m 0 c) (A_eq m c 3) (leaves_3 m c) t d
theorem finds_4 (c : Dev nD) (t : Fin cfg0.N) (d) : (dats m 0 c).before 4 t d = iblk m c 4 t :=
  staged4 m (dats m 0 c) (A_eq m c 4) (leaves_4 m c) t d
theorem finds_5 (c : Dev nD) (t : Fin cfg0.N) (d) : (dats m 0 c).before 5 t d = iblk m c 5 t :=
  staged5 m (dats m 0 c) (A_eq m c 5) (leaves_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
/-- The first point: it lays out the scratch, starts four blocks and does its own. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [finds_0, finds_1, finds_2, finds_3, finds_4, finds_5]
  rw [leaves_0, leaves_1, leaves_2, leaves_3, leaves_4, leaves_5, leaves_6, leaves_7]
  rw [held_here m c t, held_next m c t]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  have hb : ∀ k, k < 12 → (Ring.bk 12 k).val = k := fun k h => Nat.mod_eq_of_lt h
  unfold held kept ringAt zfAt zhAt
  rw [if_pos h0, if_pos h0, if_neg (show ¬t.val + 1 = 0 by omega), if_neg (show ¬t.val + 1 = 0 by omega)]
  rw [Ring.At₀_eq4' _ _ _ t.val h0 (by decide : 4 ≤ 12), Ring.At4_one' _ _ _ _ t.val h0 (by decide : 4 ≤ 12)]
  rw [inflight_C c _ _ (by rw [hb _ (by omega)]; omega) (Ring.sl 4 (t.val + 1)), inflight_C c _ _ (by rw [hb _ (by omega)]; omega) (Ring.sl 4 (t.val + 2)),
    inflight_C c _ _ (by rw [hb _ (by omega)]; omega) (Ring.sl 4 (t.val + 3))]
  rw [tok_C m c t (by omega), mdW_at m c t h0, wbW_at m c t h0]
  iintro ⟨⟨⟨HS0, HS1⟩, Hg, ⟨-, F0, F1, F2, F3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (runA c t _ _ _ _ _ _ _ _ _ _ _ _ _ _ _ _ _ _ _ _ ((hcond0_0 t).mpr (by omega)) (hcond0_1 t) (hcond0_2 t) (hcond0_3 t) (hcond0_4 t) (hcond0_5 t) (hcond0_6 t) ((hcond0_7 t).mpr (by omega)) ((hcond0_8 t).mpr (by omega)) (fun h => absurd ((hcond0_9 t).mp h) (by omega)) ((hcond0_10 t).mpr (by omega)) ((hcond0_11 t).mpr (by omega)) (fun h => absurd ((hcond0_12 t).mp h) (by omega)) (iblk m c 0 t) (iblk m c 1 t) (iblk m c 2 t) (iblk m c 3 t) (iblk m c 4 t) (iblk m c 5 t) (V m c main_v0) (V m c main_v1) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [F0]; · iexact F0
  isplitl [F1]; · iexact F1
  isplitl [F2]; · iexact F2
  isplitl [F3]; · iexact F3
  isplitl [HW]; · iexact HW
  iintro ⟨H0, H1, H2, H3, H4, H5, H6, H7, HS0, HS1, F1, F2, F3, F0, ⟨%W', HW'⟩⟩
  isplitl [HS0 HS1 Hg F0 F1 F2 F3]
  · isplitl [HS0 HS1]
    · isplitl [HS0]; · iexact HS0
      iexact HS1
    isplitl [Hg]; · iexact Hg
    iapply (Ring.with_homes (Idealize.SL.BI.Entails.refl _))
    isplitl [F1]; · iexact F1
    isplitl [F2]; · iexact F2
    isplitl [F3]; · iexact F3
    iexact F0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- A context point that starts another block of context tokens. -/
theorem sound_ctx (c : Dev nD) (t : Fin cfg0.N) (h1 : 1 ≤ t.val) (h2 : t.val < 5) :
    bodyPre m c t ⊢ wp frame (wpE (defs₀ (F := F)) Variants.none c none) Set.univ (bodyAt0 t) (fun _ => bodyPost m c t) := by
  unfold bodyPre bodyPost bodyAt0
  simp only [finds_0, finds_1, finds_2, finds_3, finds_4, finds_5]
  rw [leaves_0, leaves_1, leaves_2, leaves_3, leaves_4, leaves_5, leaves_6, leaves_7]
  rw [held_here m c t, held_next m c t]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  have hb : ∀ k, k < 12 → (Ring.bk 12 k).val = k := fun k h => Nat.mod_eq_of_lt h
  unfold held kept ringAt zfAt zhAt
  rw [if_neg (show ¬t.val = 0 by omega), if_neg (show ¬t.val = 0 by omega), if_neg (show ¬t.val + 1 = 0 by omega), if_neg (show ¬t.val + 1 = 0 by omega)]
  have hB : t.val + 3 < 12 := by omega
  rw [Ring.At4_here _ _ _ _ t.val hB, Ring.At4_next _ _ _ _ t.val hB, Ring.slotAt4_next0 _ _ _ t.val (by omega), Ring.slotAt4_next1 _ _ _ t.val (by omega), Ring.slotAt4_next2 _ _ _ t.val hB]
  rw [inflight_C c _ _ (by rw [hb _ (by omega)]; omega) (Ring.sl 4 t.val), inflight_C c _ _ (by rw [hb _ (by omega)]; omega) (Ring.sl 4 (t.val + 3))]
  rw [tok_C m c t (by omega)]
  iintro ⟨⟨⟨HS0, HS1⟩, Hg, ⟨-, F0, F1, F2, F3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (runB c t _ (hs0_0 t) _ (hs0_1 t) _ (hs0_2 t) _ (hs0_3 t) _ _ _ (hs0_5 t) _ _ _ _ _ _ _ _ (fun h => absurd ((hcond0_0 t).mp h) (by omega)) ((hcond0_7 t).mpr (by omega)) ((hcond0_8 t).mpr (by omega)) (fun h => absurd ((hcond0_9 t).mp h) (by omega)) (fun h => absurd ((hcond0_10 t).mp h) (by omega)) ((hcond0_11 t).mpr (by omega)) (fun h => absurd ((hcond0_12 t).mp h) (by omega)) (iblk m c 4 t) (wbW m c) (mdW m c) (V m c main_v0) (V m c main_v1) W _)
  isplitl [H4]; · iexact H4
  isplitl [H6]; · iexists _; iexact H6
  isplitl [H7]; · iexists _; iexact H7
  isplitl [HS0]; · iexact HS0
  isplitl [HS1]; · iexact HS1
  isplitl [F0]; · iexact F0
  isplitl [F3]; · iexact F3
  isplitl [HW]; · iexact HW
  iintro ⟨H4, H6, H7, HS0, HS1, F3, F0, ⟨%W', HW'⟩⟩
  isplitl [HS0 HS1 Hg F0 F1 F2 F3]
  · isplitl [HS0 HS1]
    · isplitl [HS0]; · iexact HS0
      iexact HS1
    isplitl [Hg]; · iexact Hg
    iapply (Ring.with_homes (Idealize.SL.BI.Entails.refl _))
    isplitl [F1]; · iexact F1
    isplitl [F2]; · iexact F2
    isplitl [F3]; · iexact F3
    iexact F0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- A context point that starts a block of latent tokens. -/
theorem sound_turn (c : Dev nD) (t : Fin cfg0.N) (h1 : 5 ≤ t.val) (h2 : t.val < 8) :
    bodyPre m c t ⊢ wp frame (wpE (defs₀ (F := F)) Variants.none c none) Set.univ (bodyAt0 t) (fun _ => bodyPost m c t) := by
  unfold bodyPre bodyPost bodyAt0
  simp only [finds_0, finds_1, finds_2, finds_3, finds_4, finds_5]
  rw [leaves_0, leaves_1, leaves_2, leaves_3, leaves_4, leaves_5, leaves_6, leaves_7]
  rw [held_here m c t, held_next m c t]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  have hb : ∀ k, k < 12 → (Ring.bk 12 k).val = k := fun k h => Nat.mod_eq_of_lt h
  unfold held kept ringAt zfAt zhAt
  rw [if_neg (show ¬t.val = 0 by omega), if_neg (show ¬t.val = 0 by omega), if_neg (show ¬t.val + 1 = 0 by omega), if_neg (show ¬t.val + 1 = 0 by omega)]
  have hB : t.val + 3 < 12 := by omega
  rw [Ring.At4_here _ _ _ _ t.val hB, Ring.At4_next _ _ _ _ t.val hB, Ring.slotAt4_next0 _ _ _ t.val (by omega), Ring.slotAt4_next1 _ _ _ t.val (by omega), Ring.slotAt4_next2 _ _ _ t.val hB]
  rw [inflight_C c _ _ (by rw [hb _ (by omega)]; omega) (Ring.sl 4 t.val), inflight_L c _ _ (by rw [hb _ (by omega)]; omega) (Ring.sl 4 (t.val + 3))]
  rw [tok_C m c t (by omega)]
  iintro ⟨⟨⟨HS0, HS1⟩, Hg, ⟨-, F0, F1, F2, F3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (runC c t _ (hs0_0 t) _ (hs0_1 t) _ (hs0_2 t) _ (hs0_3 t) _ _ _ (hs0_5 t) _ _ _ _ _ _ _ _ (fun h => absurd ((hcond0_0 t).mp h) (by omega)) ((hcond0_7 t).mpr (by omega)) (fun h => absurd ((hcond0_8 t).mp h) (by omega)) ((hcond0_9 t).mpr (by omega)) (fun h => absurd ((hcond0_10 t).mp h) (by omega)) ((hcond0_11 t).mpr (by omega)) (fun h => absurd ((hcond0_12 t).mp h) (by omega)) (iblk m c 4 t) (wbW m c) (mdW m c) (V m c main_v0) (V m c main_v1) W _)
  isplitl [H4]; · iexact H4
  isplitl [H6]; · iexists _; iexact H6
  isplitl [H7]; · iexists _; iexact H7
  isplitl [HS0]; · iexact HS0
  isplitl [HS1]; · iexact HS1
  isplitl [F0]; · iexact F0
  isplitl [F3]; · iexact F3
  isplitl [HW]; · iexact HW
  iintro ⟨H4, H6, H7, HS0, HS1, F3, F0, ⟨%W', HW'⟩⟩
  isplitl [HS0 HS1 Hg F0 F1 F2 F3]
  · isplitl [HS0 HS1]
    · isplitl [HS0]; · iexact HS0
      iexact HS1
    isplitl [Hg]; · iexact Hg
    iapply (Ring.with_homes (Idealize.SL.BI.Entails.refl _))
    isplitl [F1]; · iexact F1
    isplitl [F2]; · iexact F2
    isplitl [F3]; · iexact F3
    iexact F0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The latent point that starts the last block. -/
theorem sound_lat (c : Dev nD) (t : Fin cfg0.N) (h1 : t.val = 8) :
    bodyPre m c t ⊢ wp frame (wpE (defs₀ (F := F)) Variants.none c none) Set.univ (bodyAt0 t) (fun _ => bodyPost m c t) := by
  unfold bodyPre bodyPost bodyAt0
  simp only [finds_0, finds_1, finds_2, finds_3, finds_4, finds_5]
  rw [leaves_0, leaves_1, leaves_2, leaves_3, leaves_4, leaves_5, leaves_6, leaves_7]
  rw [held_here m c t, held_next m c t]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  have hb : ∀ k, k < 12 → (Ring.bk 12 k).val = k := fun k h => Nat.mod_eq_of_lt h
  unfold held kept ringAt zfAt zhAt
  rw [if_neg (show ¬t.val = 0 by omega), if_neg (show ¬t.val = 0 by omega), if_neg (show ¬t.val + 1 = 0 by omega), if_neg (show ¬t.val + 1 = 0 by omega)]
  have hB : t.val + 3 < 12 := by omega
  rw [Ring.At4_here _ _ _ _ t.val hB, Ring.At4_next _ _ _ _ t.val hB, Ring.slotAt4_next0 _ _ _ t.val (by omega), Ring.slotAt4_next1 _ _ _ t.val (by omega), Ring.slotAt4_next2 _ _ _ t.val hB]
  rw [inflight_L c _ _ (by rw [hb _ (by omega)]; omega) (Ring.sl 4 t.val), inflight_L c _ _ (by rw [hb _ (by omega)]; omega) (Ring.sl 4 (t.val + 3))]
  rw [tok_L m c t (by omega)]
  iintro ⟨⟨⟨HS0, HS1⟩, Hg, ⟨-, F0, F1, F2, F3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (runD c t _ (hs0_0 t) _ (hs0_1 t) _ (hs0_2 t) _ (hs0_3 t) _ _ _ (hs0_5 t) _ _ _ _ _ _ _ _ (fun h => absurd ((hcond0_0 t).mp h) (by omega)) ((hcond0_7 t).mpr (by omega)) (fun h => absurd ((hcond0_8 t).mp h) (by omega)) ((hcond0_9 t).mpr (by omega)) (fun h => absurd ((hcond0_10 t).mp h) (by omega)) (fun h => absurd ((hcond0_11 t).mp h) (by omega)) ((hcond0_12 t).mpr (by omega)) (iblk m c 4 t) (wbW m c) (mdW m c) (V m c main_v0) (V m c main_v1) W _)
  isplitl [H4]; · iexact H4
  isplitl [H6]; · iexists _; iexact H6
  isplitl [H7]; · iexists _; iexact H7
  isplitl [HS0]; · iexact HS0
  isplitl [HS1]; · iexact HS1
  isplitl [F0]; · iexact F0
  isplitl [F3]; · iexact F3
  isplitl [HW]; · iexact HW
  iintro ⟨H4, H6, H7, HS0, HS1, F3, F0, ⟨%W', HW'⟩⟩
  isplitl [HS0 HS1 Hg F0 F1 F2 F3]
  · isplitl [HS0 HS1]
    · isplitl [HS0]; · iexact HS0
      iexact HS1
    isplitl [Hg]; · iexact Hg
    iapply (Ring.with_homes (Idealize.SL.BI.Entails.refl _))
    isplitl [F1]; · iexact F1
    isplitl [F2]; · iexact F2
    isplitl [F3]; · iexact F3
    iexact F0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The last points, which start nothing. -/
theorem sound_tail (c : Dev nD) (t : Fin cfg0.N) (h1 : 9 ≤ t.val) :
    bodyPre m c t ⊢ wp frame (wpE (defs₀ (F := F)) Variants.none c none) Set.univ (bodyAt0 t) (fun _ => bodyPost m c t) := by
  unfold bodyPre bodyPost bodyAt0
  simp only [finds_0, finds_1, finds_2, finds_3, finds_4, finds_5]
  rw [leaves_0, leaves_1, leaves_2, leaves_3, leaves_4, leaves_5, leaves_6, leaves_7]
  rw [held_here m c t, held_next m c t]
  unfold Dat.owesAt Pipeline.owesWithin
  rw [show (dats m 0 c).owed t.castSucc = 0 from rfl, show (dats m 0 c).owed t.succ = 0 from rfl]
  have hN : t.val < 12 := lt_of_lt_of_eq t.isLt (show cfg0.N = 12 from N_0)
  have hb : ∀ k, k < 12 → (Ring.bk 12 k).val = k := fun k h => Nat.mod_eq_of_lt h
  unfold held kept ringAt zfAt zhAt
  rw [if_neg (show ¬t.val = 0 by omega), if_neg (show ¬t.val = 0 by omega), if_neg (show ¬t.val + 1 = 0 by omega), if_neg (show ¬t.val + 1 = 0 by omega)]
  rw [Ring.At4_here_tail _ _ _ _ t.val hN, Ring.At4_next_tail _ _ _ _ t.val (by omega) hN, Ring.slotAt4_tail_role _ _ _ t.val, Ring.slotAt4_tail_role1 _ _ _ t.val]
  rw [inflight_L c _ _ (by rw [hb _ (by omega)]; omega) (Ring.sl 4 t.val)]
  rw [tok_L m c t (by omega)]
  iintro ⟨⟨⟨HS0, HS1⟩, Hg, ⟨-, F0, F1, F2, F3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (runE c t _ (hs0_0 t) _ (hs0_1 t) _ (hs0_2 t) _ (hs0_3 t) _ _ _ (hs0_5 t) _ _ _ _ _ _ _ _ (fun h => absurd ((hcond0_0 t).mp h) (by omega)) (fun h => absurd ((hcond0_7 t).mp h) (by omega)) (fun h => absurd ((hcond0_10 t).mp h) (by omega)) (fun h => absurd ((hcond0_11 t).mp h) (by omega)) ((hcond0_12 t).mpr (by omega)) (iblk m c 4 t) (wbW m c) (mdW m c) (V m c main_v0) (V m c main_v1) W _)
  isplitl [H4]; · iexact H4
  isplitl [H6]; · iexists _; iexact H6
  isplitl [H7]; · iexists _; iexact H7
  isplitl [HS0]; · iexact HS0
  isplitl [HS1]; · iexact HS1
  isplitl [F0]; · iexact F0
  isplitl [HW]; · iexact HW
  iintro ⟨H4, H6, H7, HS0, HS1, F0, ⟨%W', HW'⟩⟩
  isplitl [HS0 HS1 Hg F0 F1 F2 F3]
  · isplitl [HS0 HS1]
    · isplitl [HS0]; · iexact HS0
      iexact HS1
    isplitl [Hg]; · iexact Hg
    iapply (Ring.with_homes (Idealize.SL.BI.Entails.refl _))
    isplitl [F1]; · iexact F1
    isplitl [F2]; · iexact F2
    isplitl [F3]; · iexact F3
    iexact F0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val < 5
  · exact sound_ctx m c t (by omega) h1
  by_cases h2 : t.val < 8
  · exact sound_turn m c t (by omega) h2
  by_cases h3 : t.val = 8
  · exact sound_lat m c t h3
  exact sound_tail m c t (by omega)

/-- The body table's row at point `t`'s slots is the body. -/
theorem row_eq (t : Fin cfg0.N) :
    defs₀ (F := F) .tc cfg0.body (cfg0.bodyArgs t (cfg0.slots t)) = bodyAt0 t := by
  unfold defs₀; rw [Defs.onTc_tc]

/-- The pipeline's body obligation. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands the body is what it holds before the first point. -/
theorem held_in (c : Dev nD) : Pipeline.ΦD osem spec0 moved (V m) c ⊢ (dats m 0 c).Φ 0 := by
  rw [handed_eq, show (dats m 0 c).Φ 0 = held m c 0 from rfl]
  unfold held kept
  rw [if_pos rfl]
  iintro ⟨⟨HS0, HS1, HR⟩, Hg, Hq, Hh⟩
  isplitl [HS0 HS1]
  · isplitl [HS0]; · iexact HS0
    iexact HS1
  isplitl [Hg]; · iexact Hg
  iapply (ring_in (F := F) m c)
  isplitl [HR]; · iexact HR
  isplitl [Hq]; · iexact Hq
  iexact Hh

/-- After the last point it hands all of it back. -/
theorem held_out (c : Dev nD) : (dats m 0 c).Φ (Fin.last cfg0.N) ⊢ Pipeline.ΦD osem spec0 moved (V m) c := by
  rw [handed_eq, show (dats m 0 c).Φ (Fin.last cfg0.N) = held m c grid0.N from rfl]
  unfold held kept
  rw [show grid0.N = 12 by rw [N_0], if_neg (by decide)]
  iintro ⟨⟨HS0, HS1⟩, Hg, HR⟩
  ihave HX := (ring_out (F := F) m c) $$ HR
  icases HX with ⟨HR, Hq, Hh⟩
  isplitl [HS0 HS1 HR]
  · isplitl [HS0]; · iexists _; iexact HS0
    isplitl [HS1]; · iexists _; iexact HS1
    iexact HR
  isplitl [Hg]; · iexact Hg
  isplitl [Hq]; · iexact Hq
  iexact Hh

set_option backward.isDefEq.respectTransparency.types false in
/-- Every execution ends with the arrays the proof data computes and with all counters at zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSem moved moved_sub m ρ main
    (hbody := fun c => (obligation m c).loose) (hshare := fun c => (dats m 0 c).share_full fun _ => rfl)
    (howed := fun _ _ => rfl) (V := V m) (hmain := host m Variants.none) (hA := A_eq m)
    (hin := held_in m) (hout := held_out m)

end Cert.InProj

end
-- ==== Proof.InProj.Blocks.lean ====
module

public import proofs.«01_k».proof.Proof.InProj.Payload
public import proofs.«01_k».proof.Proof.InProj.Frame

/-! What each staged block, and each block of tokens, holds at an index, in the launch arrays. -/

@[expose] public section

set_option maxRecDepth 16384

noncomputable section

namespace Cert.InProj

open Cert.Kernel2Ideal Cert.Kernel2Ideal.Gen
open Idealize.ShloMosaic Idealize.ShloMosaic.TcCoe

variable (m : (ℓ : Loc nD τ sig) → Buf (Elt Ideal) ℓ)

/-- Flattening a row and restoring it changes nothing. -/
theorem row_cast {n : ℕ} (x : (⟨2, ![1, n]⟩ : Shape).Idx → EReal) (h : (⟨2, ![1, n]⟩ : Shape).ShapeCasts ⟨1, ![n]⟩) (h' : (⟨1, ![n]⟩ : Shape).ShapeCasts ⟨2, ![1, n]⟩) (q : Fin n) :
    shapeCast ⟨2, ![1, n]⟩ (shapeCast ⟨1, ![n]⟩ x h) h' (ix2 0 q) = x (ix2 0 q) := by
  refine (shapeCast_apply (s := ⟨1, ![n]⟩) (t := ⟨2, ![1, n]⟩) _ _ _ (ix1 q) ?_).trans ?_
  · rw [Shape.rowMajor_val_one, Shape.rowMajor_val_two]
    show q.val = 0 * n + q.val
    omega
  · refine shapeCast_apply (s := ⟨2, ![1, n]⟩) (t := ⟨1, ![n]⟩) _ _ _ (ix2 0 q) ?_
    rw [Shape.rowMajor_val_one, Shape.rowMajor_val_two]
    show 0 * n + q.val = q.val
    omega

/-- Window 0's block index is constant. -/
theorem index0 : ∀ t : Fin cfg0.N, win0_0.index t 0 = 0 ∧ win0_0.index t 1 = 0 :=
  (by decide +kernel : ∀ t : Fin grid0.N, win0_0.index t 0 = 0 ∧ win0_0.index t 1 = 0)

/-- The context tokens' conditioning vector. -/
theorem iblk0_apply (c : Dev nD) (q : Fin 1024) :
    (iblk m c 0 p0 : Vec Ideal S1x1024 .f32) (ix2 0 q) = m ((c : Thread nD τ).loc main_arg3) (ix1 q) := by
  obtain ⟨h0, h1⟩ := index0 p0
  unfold iblk
  rw [View.read_apply]
  have e : ((cfg0.win 0).blk p0).view.emb (ix2 0 q) = (ix2 0 q : S1x1024.Idx) := by
    funext a
    apply Fin.ext
    match a with
    | ⟨0, _⟩ => show win0_0.index p0 0 * 1 + 1 * 0 = 0; rw [h0]
    | ⟨1, _⟩ => show win0_0.index p0 1 * 1024 + 1 * q.val = q.val; rw [h1]; omega
  rw [e]
  entry_read
  refine (shapeCast_apply (s := S1024) (t := S1x1024) _ _ _ (ix1 q) ?_)
  rw [Shape.rowMajor_val_one, Shape.rowMajor_val_two]
  show q.val = 0 * 1024 + q.val
  omega

/-- Window 1's block index is constant. -/
theorem index1 : ∀ t : Fin cfg0.N, win0_1.index t 0 = 0 ∧ win0_1.index t 1 = 0 :=
  (by decide +kernel : ∀ t : Fin grid0.N, win0_1.index t 0 = 0 ∧ win0_1.index t 1 = 0)

/-- The requests' conditioning vectors. -/
theorem iblk1_apply (c : Dev nD) (b : Fin 2) (q : Fin 1024) :
    (iblk m c 1 p0 : Vec Ideal S2x1024 .f32) (ix2 b q) = m ((c : Thread nD τ).loc main_arg2) (ix2 b q) := by
  obtain ⟨h0, h1⟩ := index1 p0
  unfold iblk
  rw [View.read_apply]
  have e : ((cfg0.win 1).blk p0).view.emb (ix2 b q) = (ix2 b q : S2x1024.Idx) := by
    funext a
    apply Fin.ext
    match a with
    | ⟨0, _⟩ => show win0_1.index p0 0 * 2 + 1 * b.val = b.val; rw [h0]; omega
    | ⟨1, _⟩ => show win0_1.index p0 1 * 1024 + 1 * q.val = q.val; rw [h1]; omega
  rw [e]
  entry_read
  rfl

/-- Window 2's block index is constant. -/
theorem index2 : ∀ t : Fin cfg0.N, win0_2.index t 0 = 0 ∧ win0_2.index t 1 = 0 :=
  (by decide +kernel : ∀ t : Fin grid0.N, win0_2.index t 0 = 0 ∧ win0_2.index t 1 = 0)

/-- The weights of the modulation's first two parts. -/
theorem iblk2_apply (c : Dev nD) (k : Fin 1024) (j : Fin 2048) :
    (iblk m c 2 p0 : Vec Ideal S1024x2048 .f32) (ix2 k j) = m ((c : Thread nD τ).loc main_arg4) (ix3 0 k ⟨j.val, by omega⟩) := by
  obtain ⟨h0, h1⟩ := index2 p0
  unfold iblk
  rw [View.read_apply]
  have e : ((cfg0.win 2).blk p0).view.emb (ix2 k j) = (ix2 k ⟨j.val, by omega⟩ : S1024x6144.Idx) := by
    funext a
    apply Fin.ext
    match a with
    | ⟨0, _⟩ => show win0_2.index p0 0 * 1024 + 1 * k.val = k.val; rw [h0]; omega
    | ⟨1, _⟩ => show win0_2.index p0 1 * 2048 + 1 * j.val = j.val; rw [h1]; omega
  rw [e]
  entry_read
  refine (shapeCast_apply (s := S1x1024x6144) (t := S1024x6144) _ _ _ (ix3 0 k ⟨j.val, by omega⟩) ?_)
  rw [Shape.rowMajor_val_three, Shape.rowMajor_val_two]
  show (0 * 1024 + k.val) * 6144 + j.val = k.val * 6144 + j.val
  omega

/-- The same, as arrays. -/
theorem row_casts {n : ℕ} (x : (⟨2, ![1, n]⟩ : Shape).Idx → EReal) (h : (⟨2, ![1, n]⟩ : Shape).ShapeCasts ⟨1, ![n]⟩) (h' : (⟨1, ![n]⟩ : Shape).ShapeCasts ⟨2, ![1, n]⟩) :
    shapeCast ⟨2, ![1, n]⟩ (shapeCast ⟨1, ![n]⟩ x h) h' = x := by
  funext i
  have hi : i = ix2 0 (i 1) := (eq_ix2 i).trans (by congr 1; exact Subsingleton.elim _ _)
  rw [hi]
  exact row_cast x h h' (i 1)

/-- The offsets as staged. -/
theorem V_main_v5 (c : Dev nD) : V m c main_v5 = m ((c : Thread nD τ).loc main_arg5) := by
  entry_read
  exact row_casts (n := 6144) _ _ _

/-- The norm's weights as staged. -/
theorem V_main_v9 (c : Dev nD) : V m c main_v9 = m ((c : Thread nD τ).loc main_arg6) := by
  entry_read
  exact row_casts (n := 1024) _ _ _

/-- Window 3's block index is constant. -/
theorem index3 : ∀ t : Fin cfg0.N, win0_3.index t 0 = 0 ∧ win0_3.index t 1 = 0 :=
  (by decide +kernel : ∀ t : Fin grid0.N, win0_3.index t 0 = 0 ∧ win0_3.index t 1 = 0)

/-- Their offsets. -/
theorem iblk3_apply (c : Dev nD) (j : Fin 2048) :
    (iblk m c 3 p0 : Vec Ideal S1x2048 .f32) (ix2 0 j) = m ((c : Thread nD τ).loc main_arg5) (ix2 0 ⟨j.val, by omega⟩) := by
  obtain ⟨h0, h1⟩ := index3 p0
  unfold iblk
  rw [View.read_apply]
  have e : ((cfg0.win 3).blk p0).view.emb (ix2 0 j) = (ix2 0 ⟨j.val, by omega⟩ : S1x6144.Idx) := by
    funext a
    apply Fin.ext
    match a with
    | ⟨0, _⟩ => show win0_3.index p0 0 * 1 + 1 * 0 = 0; rw [h0]
    | ⟨1, _⟩ => show win0_3.index p0 1 * 2048 + 1 * j.val = j.val; rw [h1]; omega
  rw [e]
  exact congrFun (V_main_v5 m c) (ix2 0 ⟨j.val, by omega⟩)

/-- Window 4's block index is constant. -/
theorem index4 : ∀ t : Fin cfg0.N, win0_4.index t 0 = 0 ∧ win0_4.index t 1 = 0 :=
  (by decide +kernel : ∀ t : Fin grid0.N, win0_4.index t 0 = 0 ∧ win0_4.index t 1 = 0)

/-- The norm's weights. -/
theorem iblk4_apply (c : Dev nD) (t : Fin cfg0.N) (q : Fin 1024) :
    (iblk m c 4 t : Vec Ideal S1x1024 .f32) (ix2 0 q) = m ((c : Thread nD τ).loc main_arg6) (ix2 0 q) := by
  obtain ⟨h0, h1⟩ := index4 t
  unfold iblk
  rw [View.read_apply]
  have e : ((cfg0.win 4).blk t).view.emb (ix2 0 q) = (ix2 0 q : S1x1024.Idx) := by
    funext a
    apply Fin.ext
    match a with
    | ⟨0, _⟩ => show win0_4.index t 0 * 1 + 1 * 0 = 0; rw [h0]
    | ⟨1, _⟩ => show win0_4.index t 1 * 1024 + 1 * q.val = q.val; rw [h1]; omega
  rw [e]
  exact congrFun (V_main_v9 m c) (ix2 0 q)

/-- Window 5's block index is constant. -/
theorem index5 : ∀ t : Fin cfg0.N, win0_5.index t 0 = 0 ∧ win0_5.index t 1 = 0 :=
  (by decide +kernel : ∀ t : Fin grid0.N, win0_5.index t 0 = 0 ∧ win0_5.index t 1 = 0)

/-- The projection's weights, transposed. -/
theorem iblk5_apply (c : Dev nD) (n : Fin 3120) (k : Fin 1024) :
    (iblk m c 5 p0 : Vec Ideal S3120x1024 .f32) (ix2 n k) = m ((c : Thread nD τ).loc main_arg7) (ix3 0 k n) := by
  obtain ⟨h0, h1⟩ := index5 p0
  unfold iblk
  rw [View.read_apply]
  have e : ((cfg0.win 5).blk p0).view.emb (ix2 n k) = (ix2 n k : S3120x1024.Idx) := by
    funext a
    apply Fin.ext
    match a with
    | ⟨0, _⟩ => show win0_5.index p0 0 * 3120 + 1 * n.val = n.val; rw [h0]; omega
    | ⟨1, _⟩ => show win0_5.index p0 1 * 1024 + 1 * k.val = k.val; rw [h1]; omega
  rw [e]
  entry_read
  refine (cast_eq _ _).trans ?_
  refine (transpose_apply (s := S1024x3120) (t := S3120x1024) [1, 0] _ _ (ix2 n k) (ix2 k n) (fun a => match a with | ⟨0, _⟩ => rfl | ⟨1, _⟩ => rfl)).trans ?_
  refine (shapeCast_apply (s := S1x1024x3120) (t := S1024x3120) _ _ (ix2 k n) (ix3 0 k n) ?_)
  rw [Shape.rowMajor_val_three, Shape.rowMajor_val_two]
  show (0 * 1024 + k.val) * 3120 + n.val = k.val * 3120 + n.val
  omega

/-- The tokens of a context point. -/
theorem tok_ctx (c : Dev nD) (t : Fin cfg0.N) (n : Fin 8) (ht : t.val = n.val) (p : Fin 512) (q : Fin 1024) :
    tok m c t (ix2 p q) = m ((c : Thread nD τ).loc main_arg0) (ix3 ⟨(512 * n.val + p.val) / 256, by omega⟩ ⟨(512 * n.val + p.val) % 256, by omega⟩ q) := by
  have hb : (Ring.bk 12 t.val).val = t.val % 12 := rfl
  rw [tok_C m c t (by omega)]
  unfold srcC
  rw [View.read_apply]
  have e : (hbC.slice (Rect.unit (s := S4096x1024) ![512 * ((Ring.bk 12 t.val).val % 8), 0] S512x1024.size (inb_srcC (Ring.bk 12 t.val))) (fun _ => rfl)).view.emb (ix2 p q) = (ix2 ⟨512 * n.val + p.val, by omega⟩ q : S4096x1024.Idx) := by
    funext a
    apply Fin.ext
    match a with
    | ⟨0, _⟩ => show 512 * ((Ring.bk 12 t.val).val % 8) + 1 * p.val = 512 * n.val + p.val; omega
    | ⟨1, _⟩ => show 0 + 1 * q.val = q.val; omega
  rw [e]
  entry_read
  refine (shapeCast_apply (s := S16x256x1024) (t := S4096x1024) _ _ _ (ix3 ⟨(512 * n.val + p.val) / 256, by omega⟩ ⟨(512 * n.val + p.val) % 256, by omega⟩ q) ?_)
  rw [Shape.rowMajor_val_three, Shape.rowMajor_val_two]
  show ((512 * n.val + p.val) / 256 * 256 + (512 * n.val + p.val) % 256) * 1024 + q.val = (512 * n.val + p.val) * 1024 + q.val
  omega

/-- The tokens of a latent point. -/
theorem tok_lat (c : Dev nD) (t : Fin cfg0.N) (n : Fin 4) (ht : t.val = 8 + n.val) (p : Fin 512) (q : Fin 1024) :
    tok m c t (ix2 p q) = m ((c : Thread nD τ).loc main_arg1) (ix3 ⟨(512 * n.val + p.val) / 1024, by omega⟩ ⟨(512 * n.val + p.val) % 1024, by omega⟩ q) := by
  have hb : (Ring.bk 12 t.val).val = t.val % 12 := rfl
  rw [tok_L m c t (by omega)]
  unfold srcL
  rw [View.read_apply]
  have e : (hbL.slice (Rect.unit (s := S2048x1024) ![512 * (((Ring.bk 12 t.val).val - 8) % 4), 0] S512x1024.size (inb_srcL (Ring.bk 12 t.val))) (fun _ => rfl)).view.emb (ix2 p q) = (ix2 ⟨512 * n.val + p.val, by omega⟩ q : S2048x1024.Idx) := by
    funext a
    apply Fin.ext
    match a with
    | ⟨0, _⟩ => show 512 * (((Ring.bk 12 t.val).val - 8) % 4) + 1 * p.val = 512 * n.val + p.val; omega
    | ⟨1, _⟩ => show 0 + 1 * q.val = q.val; omega
  rw [e]
  entry_read
  refine (shapeCast_apply (s := S2x1024x1024) (t := S2048x1024) _ _ _ (ix3 ⟨(512 * n.val + p.val) / 1024, by omega⟩ ⟨(512 * n.val + p.val) % 1024, by omega⟩ q) ?_)
  rw [Shape.rowMajor_val_three, Shape.rowMajor_val_two]
  show ((512 * n.val + p.val) / 1024 * 1024 + (512 * n.val + p.val) % 1024) * 1024 + q.val = (512 * n.val + p.val) * 1024 + q.val
  omega

end Cert.InProj

end
-- ==== Proof.InProj.Value.lean ====
module

public import proofs.«01_k».proof.Proof.InProj.Blocks

/-! The tiles the pipeline stores, row by row over the extended reals: each is `Cert.Row.proj` of `Cert.Row.hidden` of the row's
data, its columns in the order the results store them. -/

@[expose] public section

set_option maxRecDepth 16384

noncomputable section

namespace Cert.InProj

open Cert.Kernel2Ideal Cert.Kernel2Ideal.Gen
open Idealize.ShloMosaic Idealize.ShloMosaic.TcCoe

/-! ## The laid-out weights -/

theorem rowIx_eq {n : ℕ} (r : Fin n) (j : Fin 1024) : rowIx r j = ix2 r j := by
  funext a
  match a with
  | ⟨0, _⟩ => rfl
  | ⟨1, _⟩ => rfl

/-- A load of `n` of the weights' rows. -/
theorem ld_rows (x : Vec Ideal S3120x1024 .f32) (o n : ℕ) (inb : ∀ a, (![o, 0] : Fin 2 → ℕ) a + (⟨2, ![n, 1024]⟩ : Shape).size a ≤ S3120x1024.size a)
    (p : Fin n) (k : Fin 1024) (r : Fin 3120) (hr : r.val = o + p.val) :
    View.ld x (Rect.unit (s := S3120x1024) ![o, 0] (⟨2, ![n, 1024]⟩ : Shape).size inb) (ix2 p k) = x (ix2 r k) := by
  refine congrArg x ?_
  funext a
  apply Fin.ext
  match a with
  | ⟨0, _⟩ => show o + 1 * p.val = r.val; omega
  | ⟨1, _⟩ => show 0 + 1 * k.val = k.val; omega

/-- Equal row numbers, equal entries. -/
theorem pay6_at (x : Vec Ideal S32x1024 .f32) (y : Vec Ideal S16x1024 .f32) (r r' : Fin 128) (k : Fin 1024) (h : r.val = r'.val) :
    k0_pay6 x y (ix2 r k) = k0_pay6 x y (ix2 r' k) := by
  rw [Fin.ext h]

/-- Row `j` of the first product's weights. -/
theorem wb_f (x : Vec Ideal S3120x1024 .f32) (j : Fin 1152) (k : Fin 1024) :
    wbOf x (ix2 ⟨j.val, by omega⟩ k) = Row.colF (fun n => x (ix2 n k)) j := by
  have hj := j.isLt
  unfold wbOf Row.colF
  by_cases h0 : j.val < 512
  · rw [dif_pos h0, dif_pos (show ((ix2 (⟨j.val, by omega⟩ : Fin 3200) k : S3200x1024.Idx) 0).val < 512 from h0)]
    refine (congrArg _ (rowIx_eq _ _)).trans ?_
    refine (pay4_apply _ _ _).trans (ld_rows x 0 512 _ _ _ _ ?_)
    show j.val = 0 + (j.val - 0)
    omega
  rw [dif_neg h0, dif_neg (show ¬((ix2 (⟨j.val, by omega⟩ : Fin 3200) k : S3200x1024.Idx) 0).val < 512 from h0)]
  by_cases h1 : j.val < 1024
  · rw [dif_pos h1, dif_pos (show ((ix2 (⟨j.val, by omega⟩ : Fin 3200) k : S3200x1024.Idx) 0).val < 1024 from h1)]
    refine (congrArg _ (rowIx_eq _ _)).trans ?_
    refine (pay5_apply _ _ _).trans (ld_rows x 1568 512 _ _ _ _ ?_)
    show 1056 + j.val = 1568 + (j.val - 512)
    omega
  rw [dif_neg h1, dif_neg (show ¬((ix2 (⟨j.val, by omega⟩ : Fin 3200) k : S3200x1024.Idx) 0).val < 1024 from h1),
    dif_pos (show ((ix2 (⟨j.val, by omega⟩ : Fin 3200) k : S3200x1024.Idx) 0).val < 1152 from hj)]
  refine (congrArg _ (rowIx_eq _ _)).trans ?_
  by_cases h2 : j.val < 1056
  · rw [dif_pos h2]
    refine (pay6_ra _ _ (⟨j.val - 1024, by omega⟩ : Fin 32) k).trans (ld_rows x 1536 32 _ _ _ _ ?_)
    show 512 + j.val = 1536 + (j.val - 1024)
    omega
  rw [dif_neg h2]
  by_cases h3 : j.val < 1072
  · rw [dif_pos h3]
    refine (pay6_at _ _ _ ⟨32 + (j.val - 1056), by omega⟩ k ?_).trans ((pay6_gb _ _ (⟨j.val - 1056, by omega⟩ : Fin 16) k).trans (ld_rows x 3104 16 _ _ _ _ ?_))
    · show j.val - 1024 = 32 + (j.val - 1056)
      omega
    · show 2048 + j.val = 3104 + (j.val - 1056)
      omega
  rw [dif_neg h3]
  refine (pay6_at _ _ _ ⟨48 + (j.val - 1072), by omega⟩ k ?_).trans (pay6_zero _ _ (⟨j.val - 1072, by omega⟩ : Fin 80) k)
  show j.val - 1024 = 48 + (j.val - 1072)
  omega

/-- Row `j` of the second product's weights. -/
theorem wb_h (x : Vec Ideal S3120x1024 .f32) (j : Fin 2048) (k : Fin 1024) :
    wbOf x (ix2 ⟨1152 + j.val, by omega⟩ k) = Row.colH (fun n => x (ix2 n k)) j := by
  have hj := j.isLt
  unfold wbOf Row.colH
  rw [dif_neg (show ¬((ix2 (⟨1152 + j.val, by omega⟩ : Fin 3200) k : S3200x1024.Idx) 0).val < 512 by show ¬1152 + j.val < 512; omega),
    dif_neg (show ¬((ix2 (⟨1152 + j.val, by omega⟩ : Fin 3200) k : S3200x1024.Idx) 0).val < 1024 by show ¬1152 + j.val < 1024; omega),
    dif_neg (show ¬((ix2 (⟨1152 + j.val, by omega⟩ : Fin 3200) k : S3200x1024.Idx) 0).val < 1152 by show ¬1152 + j.val < 1152; omega)]
  by_cases h0 : j.val < 1024
  · rw [dif_pos h0, dif_pos (show ((ix2 (⟨1152 + j.val, by omega⟩ : Fin 3200) k : S3200x1024.Idx) 0).val < 2176 by show 1152 + j.val < 2176; omega)]
    refine (congrArg _ (rowIx_eq _ _)).trans ?_
    refine (pay7_apply _ _ _).trans (ld_rows x 512 1024 _ _ _ _ ?_)
    show 512 + j.val = 512 + (1152 + j.val - 1152)
    omega
  · rw [dif_neg h0, dif_neg (show ¬((ix2 (⟨1152 + j.val, by omega⟩ : Fin 3200) k : S3200x1024.Idx) 0).val < 2176 by show ¬1152 + j.val < 2176; omega)]
    refine (congrArg _ (rowIx_eq _ _)).trans ?_
    refine (pay9_apply _ _ _).trans (ld_rows x 2080 1024 _ _ _ _ ?_)
    show 1056 + j.val = 2080 + (1152 + j.val - 2176)
    omega

/-- A row's products, by columns. -/
theorem sum_colF (h : Fin 1024 → EReal) (f : Fin 3120 → Fin 1024 → EReal) (j : Fin 1152) :
    ∑ k, h k * Row.colF (fun n => f n k) j = Row.colF (fun n => ∑ k, h k * f n k) j := by
  unfold Row.colF
  repeat' split
  all_goals first
    | rfl
    | exact Finset.sum_eq_zero fun k _ => mul_zero _

theorem sum_colH (h : Fin 1024 → EReal) (f : Fin 3120 → Fin 1024 → EReal) (j : Fin 2048) :
    ∑ k, h k * Row.colH (fun n => f n k) j = Row.colH (fun n => ∑ k, h k * f n k) j := by
  unfold Row.colH
  split <;> rfl

/-! ## One tile -/

/-- The block's rows, read through the ring's slot. -/
theorem lead1_apply (x : Vec Ideal S512x1024 .f32) (p : Fin 512) (q : Fin 1024) : lead1 x (ix3 0 p q) = x (ix2 p q) := by
  refine congrArg x ?_
  funext a
  match a with
  | ⟨0, _⟩ => rfl
  | ⟨1, _⟩ => rfl

/-- A load of a part of a modulation row. -/
theorem ld_part (md : Vec Ideal S8x2048 .f32) (off : Fin 2 → ℕ) (inb : ∀ a, off a + S1x1024.size a ≤ S8x2048.size a) (ρ : Fin 8) (o : ℕ)
    (h : off = ![ρ.val, o]) (j : Fin 1024) (n : Fin 2048) (hn : n.val = o + j.val) :
    View.ld md (Rect.unit (s := S8x2048) off S1x1024.size inb) (ix2 0 j) = md (ix2 ρ n) := by
  subst h
  refine congrArg md ?_
  funext a
  apply Fin.ext
  match a with
  | ⟨0, _⟩ => show ρ.val + 1 * 0 = ρ.val; omega
  | ⟨1, _⟩ => show o + 1 * j.val = n.val; omega

/-- The block's modulated row, by its modulation row `ρ`. -/
theorem hid_row (t : Fin cfg0.N) (ρ : Fin 8) (hρ : (t.val - 6) / 2 = ρ.val) (md : Vec Ideal S8x2048 .f32) (nw : Vec Ideal S1x1024 .f32)
    (x : Vec Ideal S512x1024 .f32) (p : Fin 512) (q : Fin 1024) :
    hT (grid0.coords t) md nw x (ix2 p q) = Row.modulate (fun j => x (ix2 p j)) (fun j => nw (ix2 0 j))
      (fun j => md (ix2 ρ ⟨1024 + j.val, by omega⟩)) (fun j => md (ix2 ρ ⟨j.val, by omega⟩)) q := by
  have e1 := coff_sh t
  have e2 := coff_sc t
  rw [hρ] at e1 e2
  unfold hT
  rw [pay10_apply]
  have a1 := funext fun j : Fin 1024 => lead1_apply x p j
  have a2 := funext fun j : Fin 1024 => ld_part md (k0_off32 (grid0.coords t)) (k0_off32_inb (grid0.coords t)) ρ 1024 e2 j ⟨1024 + j.val, by omega⟩ rfl
  have a3 := funext fun j : Fin 1024 => ld_part md (k0_off31 (grid0.coords t)) (k0_off31_inb (grid0.coords t)) ρ 0 e1 j ⟨j.val, by omega⟩ (by show j.val = 0 + j.val; omega)
  rw [a1, a2, a3]

/-- The first tile's rows. -/
theorem zfT_apply (i : grid0.Coords) (md : Vec Ideal S8x2048 .f32) (x5 : Vec Ideal S3120x1024 .f32) (nw : Vec Ideal S1x1024 .f32)
    (x : Vec Ideal S512x1024 .f32) (p : Fin 512) (j : Fin 1152) :
    zfT i md (wbOf x5) nw x (ix2 p j) = Row.colF (fun n => ∑ k : Fin 1024, hT i md nw x (ix2 p k) * x5 (ix2 n k)) j := by
  rw [← sum_colF (fun k => hT i md nw x (ix2 p k)) (fun n k => x5 (ix2 n k))]
  unfold zfT
  rw [pay11_apply]
  refine Finset.sum_congr rfl fun k _ => congrArg₂ (· * ·) rfl (Eq.trans ?_ (wb_f x5 j k))
  refine congrArg (wbOf x5) ?_
  funext a
  apply Fin.ext
  match a with
  | ⟨0, _⟩ => show 0 + 1 * j.val = j.val; omega
  | ⟨1, _⟩ => show 0 + 1 * k.val = k.val; omega

/-- The second tile's rows. -/
theorem zhT_apply (i : grid0.Coords) (md : Vec Ideal S8x2048 .f32) (x5 : Vec Ideal S3120x1024 .f32) (nw : Vec Ideal S1x1024 .f32)
    (x : Vec Ideal S512x1024 .f32) (p : Fin 512) (j : Fin 2048) :
    zhT i md (wbOf x5) nw x (ix2 p j) = Row.colH (fun n => ∑ k : Fin 1024, hT i md nw x (ix2 p k) * x5 (ix2 n k)) j := by
  rw [← sum_colH (fun k => hT i md nw x (ix2 p k)) (fun n k => x5 (ix2 n k))]
  unfold zhT
  rw [pay1_apply]
  refine Finset.sum_congr rfl fun k _ => congrArg₂ (· * ·) rfl (Eq.trans ?_ (wb_h x5 j k))
  refine congrArg (wbOf x5) ?_
  funext a
  apply Fin.ext
  match a with
  | ⟨0, _⟩ => show 1152 + 1 * j.val = 1152 + j.val; omega
  | ⟨1, _⟩ => show 0 + 1 * k.val = k.val; omega

/-! ## The modulation rows -/

variable (m : (ℓ : Loc nD τ sig) → Buf (Elt Ideal) ℓ)

/-- A load of a request's conditioning vector. -/
theorem ld_req (x : Vec Ideal S2x1024 .f32) (b : Fin 2) (inb : ∀ a, (![b.val, 0] : Fin 2 → ℕ) a + S1x1024.size a ≤ S2x1024.size a) (k : Fin 1024) :
    View.ld x (Rect.unit (s := S2x1024) ![b.val, 0] S1x1024.size inb) (ix2 0 k) = x (ix2 b k) := by
  refine congrArg x ?_
  funext a
  apply Fin.ext
  match a with
  | ⟨0, _⟩ => show b.val + 1 * 0 = b.val; omega
  | ⟨1, _⟩ => show 0 + 1 * k.val = k.val; omega

/-- The context tokens' row. -/
theorem mdW_0 (c : Dev nD) (j : Fin 2048) : mdW m c (ix2 0 j)
    = Row.ada (fun k => m ((c : Thread nD τ).loc main_arg3) (ix1 k)) (m ((c : Thread nD τ).loc main_arg4)) (m ((c : Thread nD τ).loc main_arg5)) ⟨j.val, by omega⟩ :=
  (mod_row0 _ _ _ _ _ j).trans (congrArg₂ (· + ·) (Finset.sum_congr rfl fun k _ =>
    congrArg₂ (· * ·) (congrArg Row.silu (iblk0_apply m c k)) (iblk2_apply m c k j)) (iblk3_apply m c j))

/-- A request's row. -/
theorem mdW_req (c : Dev nD) (b : Fin 2) (j : Fin 2048) : mdW m c (ix2 ⟨1 + b.val, by omega⟩ j)
    = Row.ada (fun k => m ((c : Thread nD τ).loc main_arg2) (ix2 b k)) (m ((c : Thread nD τ).loc main_arg4)) (m ((c : Thread nD τ).loc main_arg5)) ⟨j.val, by omega⟩ := by
  match b with
  | ⟨0, _⟩ =>
    exact (mod_row1 _ _ _ _ _ j).trans (congrArg₂ (· + ·) (Finset.sum_congr rfl fun k _ =>
      congrArg₂ (· * ·) (congrArg Row.silu ((ld_req _ 0 _ k).trans (iblk1_apply m c 0 k))) (iblk2_apply m c k j)) (iblk3_apply m c j))
  | ⟨1, _⟩ =>
    exact (mod_row2 _ _ _ _ _ j).trans (congrArg₂ (· + ·) (Finset.sum_congr rfl fun k _ =>
      congrArg₂ (· * ·) (congrArg Row.silu ((ld_req _ 1 _ k).trans (iblk1_apply m c 1 k))) (iblk2_apply m c k j)) (iblk3_apply m c j))

/-- The modulated row of output row `r`. -/
def hid (c : Dev nD) (r : Fin 6144) : Fin 1024 → EReal :=
  if h : r.val < 4096 then
    Row.hidden (fun j => m ((c : Thread nD τ).loc main_arg0) (ix3 ⟨r.val / 256, by omega⟩ ⟨r.val % 256, by omega⟩ j))
      (fun k => m ((c : Thread nD τ).loc main_arg3) (ix1 k)) (m ((c : Thread nD τ).loc main_arg4)) (m ((c : Thread nD τ).loc main_arg5)) (m ((c : Thread nD τ).loc main_arg6))
  else
    Row.hidden (fun j => m ((c : Thread nD τ).loc main_arg1) (ix3 ⟨(r.val - 4096) / 1024, by omega⟩ ⟨(r.val - 4096) % 1024, by omega⟩ j))
      (fun k => m ((c : Thread nD τ).loc main_arg2) (ix2 ⟨(r.val - 4096) / 1024, by omega⟩ k)) (m ((c : Thread nD τ).loc main_arg4)) (m ((c : Thread nD τ).loc main_arg5)) (m ((c : Thread nD τ).loc main_arg6))

/-- The modulated row at a point. -/
theorem hT_at (c : Dev nD) (t : Fin cfg0.N) (p : Fin 512) (r : Fin 6144) (hr : r.val = 512 * t.val + p.val) :
    (fun k => hT (grid0.coords t) (mdW m c) (iblk m c 4 t) (tok m c t) (ix2 p k)) = hid m c r := by
  have hN : t.val < 12 := lt_of_lt_of_eq t.isLt (show cfg0.N = 12 from N_0)
  funext q
  unfold hid
  by_cases h : t.val < 8
  · rw [dif_pos (by omega), hid_row t 0 (by show (t.val - 6) / 2 = 0; omega)]
    unfold Row.hidden
    have a1 := funext fun j : Fin 1024 => tok_ctx m c t ⟨t.val, h⟩ rfl p j
    have a2 := funext fun j : Fin 1024 => iblk4_apply m c t j
    have a3 := funext fun j : Fin 1024 => mdW_0 m c ⟨1024 + j.val, by omega⟩
    have a4 := funext fun j : Fin 1024 => mdW_0 m c ⟨j.val, by omega⟩
    rw [a1, a2, a3, a4]
    refine congrArg (fun x => Row.modulate x _ _ _ q) (funext fun j => ?_)
    refine congrArg₂ (fun a b => m ((c : Thread nD τ).loc main_arg0) (ix3 a b j)) (Fin.ext ?_) (Fin.ext ?_)
    · show (512 * t.val + p.val) / 256 = r.val / 256
      rw [hr]
    · show (512 * t.val + p.val) % 256 = r.val % 256
      rw [hr]
  · have hb : (t.val - 8) / 2 < 2 := by omega
    rw [dif_neg (by omega), hid_row t ⟨1 + (t.val - 8) / 2, by omega⟩ (by show (t.val - 6) / 2 = 1 + (t.val - 8) / 2; omega)]
    unfold Row.hidden
    have a1 := funext fun j : Fin 1024 => tok_lat m c t ⟨t.val - 8, by omega⟩ (by show t.val = 8 + (t.val - 8); omega) p j
    have a2 := funext fun j : Fin 1024 => iblk4_apply m c t j
    have a3 := funext fun j : Fin 1024 => mdW_req m c ⟨(t.val - 8) / 2, hb⟩ ⟨1024 + j.val, by omega⟩
    have a4 := funext fun j : Fin 1024 => mdW_req m c ⟨(t.val - 8) / 2, hb⟩ ⟨j.val, by omega⟩
    rw [a1, a2, a3, a4]
    have er : (⟨(t.val - 8) / 2, hb⟩ : Fin 2) = ⟨(r.val - 4096) / 1024, by omega⟩ := Fin.ext (by show (t.val - 8) / 2 = (r.val - 4096) / 1024; omega)
    rw [er]
    refine congrArg (fun x => Row.modulate x _ _ _ q) (funext fun j => ?_)
    refine congrArg₂ (fun a b => m ((c : Thread nD τ).loc main_arg1) (ix3 a b j)) (Fin.ext ?_) (Fin.ext ?_)
    · show (512 * (t.val - 8) + p.val) / 1024 = (r.val - 4096) / 1024
      omega
    · show (512 * (t.val - 8) + p.val) % 1024 = (r.val - 4096) % 1024
      omega

/-- The projection's columns at a point. -/
theorem proj_at (c : Dev nD) (t : Fin cfg0.N) (p : Fin 512) (r : Fin 6144) (hr : r.val = 512 * t.val + p.val) :
    (fun n => ∑ k : Fin 1024, hT (grid0.coords t) (mdW m c) (iblk m c 4 t) (tok m c t) (ix2 p k) * (iblk m c 5 p0 : Vec Ideal S3120x1024 .f32) (ix2 n k))
      = Row.proj (hid m c r) (m ((c : Thread nD τ).loc main_arg7)) := by
  funext n
  exact Finset.sum_congr rfl fun k _ => congrArg₂ (· * ·) (congrFun (hT_at m c t p r hr) k) (iblk5_apply m c n k)

/-- The first tile at a point. -/
theorem zfAt_apply (c : Dev nD) (t : Fin cfg0.N) (p : Fin 512) (j : Fin 1152) (r : Fin 6144) (hr : r.val = 512 * t.val + p.val) :
    zfAt m c t (ix2 p j) = Row.colF (Row.proj (hid m c r) (m ((c : Thread nD τ).loc main_arg7))) j :=
  (zfT_apply _ _ _ _ _ p j).trans (congrArg (fun f => Row.colF f j) (proj_at m c t p r hr))

/-- The second tile at a point. -/
theorem zhAt_apply (c : Dev nD) (t : Fin cfg0.N) (p : Fin 512) (j : Fin 2048) (r : Fin 6144) (hr : r.val = 512 * t.val + p.val) :
    zhAt m c t (ix2 p j) = Row.colH (Row.proj (hid m c r) (m ((c : Thread nD τ).loc main_arg7))) j :=
  (zhT_apply _ _ _ _ _ p j).trans (congrArg (fun f => Row.colH f j) (proj_at m c t p r hr))

end Cert.InProj

end
-- ==== Proof.InProj.Final.lean ====
module

public import proofs.«01_k».proof.Proof.InProj.Value

/-! The projection's two result arrays at the end of the run: the tiles written back cover each of them. -/

@[expose] public section

set_option maxRecDepth 16384

noncomputable section

namespace Cert.InProj

open Cert.Kernel2Ideal Cert.Kernel2Ideal.Gen
open Idealize.ShloMosaic Idealize.ShloMosaic.TcCoe

variable (m : (ℓ : Loc nD τ sig) → Buf (Elt Ideal) ℓ)

/-- The first result. -/
def zfOut (c : Dev nD) : Buf (Elt Ideal) ((c : Thread nD τ).loc main_v10_0) :=
  fun i => Row.colF (Row.proj (hid m c (i 0)) (m ((c : Thread nD τ).loc main_arg7))) (i 1)

/-- The block written back at a point. -/
theorem index6 : ∀ t : Fin cfg0.N, win0_6.index t 0 = t.val ∧ win0_6.index t 1 = 0 :=
  (by decide +kernel : ∀ t : Fin grid0.N, win0_6.index t 0 = t.val ∧ win0_6.index t 1 = 0)

/-- Each write-back writes its block of the result. -/
theorem flushed6 (c : Dev nD) (t : Fin cfg0.N) (_hf : (cfg0.win 6).flush t = true) :
    (dats m 0 c).flushed 6 t = ((cfg0.win 6).blk t).view.read (Elt Ideal) (zfOut m c) := by
  obtain ⟨h0, h1⟩ := index6 t
  have hN : t.val < 12 := lt_of_lt_of_eq t.isLt (show cfg0.N = 12 from N_0)
  show (cfg0.win 6).cut (grid0.coords t) ((dats m 0 c).after 6 t) = _
  rw [leaves_6]
  funext y
  rw [View.read_apply]
  have hp : (y 0).val < 512 := (y 0).isLt
  have hy : (y : S512x1152.Idx) = ix2 (y 0) (y 1) := eq_ix2 y
  refine Eq.trans (show _ = zfAt m c t (ix2 (y 0) (y 1)) from congrArg (zfAt m c t) hy) ?_
  refine (zfAt_apply m c t (y 0) (y 1) ⟨512 * t.val + (y 0).val, by omega⟩ rfl).trans ?_
  have e : ((cfg0.win 6).blk t).view.emb y = (ix2 ⟨512 * t.val + (y 0).val, by omega⟩ (y 1) : S6144x1152.Idx) := by
    funext a
    apply Fin.ext
    match a with
    | ⟨0, _⟩ => show win0_6.index t 0 * 512 + 1 * (y 0).val = 512 * t.val + (y 0).val; rw [h0]; omega
    | ⟨1, _⟩ => show win0_6.index t 1 * 1152 + 1 * (y 1).val = (y 1).val; rw [h1]; omega
  rw [e]
  rfl

/-- The first result array ends holding it. -/
theorem final6 (c : Dev nD) : (dats m 0 c).arrAt 6 cfg0.N = zfOut m c :=
  (dats m 0 c).arrAt_eq_of_cover 6 (zfOut m c) (flushed6 m c) fun i => by
    have hr : (i 0 : Nat) < 6144 := (i 0).isLt
    have hq : (i 1 : Nat) < 1152 := (i 1).isLt
    have hb : (i 0 : Nat) / 512 < 12 := by omega
    refine ⟨⟨(i 0 : Nat) / 512, lt_of_lt_of_eq hb (show 12 = cfg0.N from N_0.symm)⟩, flush0_6 _, ?_⟩
    generalize ht : (⟨(i 0 : Nat) / 512, lt_of_lt_of_eq hb (show 12 = cfg0.N from N_0.symm)⟩ : Fin cfg0.N) = t
    have hv : t.val = (i 0 : Nat) / 512 := by rw [← ht]
    obtain ⟨h0, h1⟩ := index6 t
    show i ∈ ((View.whole main_v10_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [h0, hv]; omega
    | ⟨1, _⟩ =>
      show win0_6.index t 1 * 1152 ≤ (i 1 : Nat) ∧ (i 1 : Nat) < win0_6.index t 1 * 1152 + 1152
      rw [h1]; omega

/-- The second result. -/
def zhOut (c : Dev nD) : Buf (Elt Ideal) ((c : Thread nD τ).loc main_v10_1) :=
  fun i => Row.colH (Row.proj (hid m c (i 0)) (m ((c : Thread nD τ).loc main_arg7))) (i 1)

/-- The block written back at a point. -/
theorem index7 : ∀ t : Fin cfg0.N, win0_7.index t 0 = t.val ∧ win0_7.index t 1 = 0 :=
  (by decide +kernel : ∀ t : Fin grid0.N, win0_7.index t 0 = t.val ∧ win0_7.index t 1 = 0)

/-- Each write-back writes its block of the result. -/
theorem flushed7 (c : Dev nD) (t : Fin cfg0.N) (_hf : (cfg0.win 7).flush t = true) :
    (dats m 0 c).flushed 7 t = ((cfg0.win 7).blk t).view.read (Elt Ideal) (zhOut m c) := by
  obtain ⟨h0, h1⟩ := index7 t
  have hN : t.val < 12 := lt_of_lt_of_eq t.isLt (show cfg0.N = 12 from N_0)
  show (cfg0.win 7).cut (grid0.coords t) ((dats m 0 c).after 7 t) = _
  rw [leaves_7]
  funext y
  rw [View.read_apply]
  have hp : (y 0).val < 512 := (y 0).isLt
  have hy : (y : S512x2048.Idx) = ix2 (y 0) (y 1) := eq_ix2 y
  refine Eq.trans (show _ = zhAt m c t (ix2 (y 0) (y 1)) from congrArg (zhAt m c t) hy) ?_
  refine (zhAt_apply m c t (y 0) (y 1) ⟨512 * t.val + (y 0).val, by omega⟩ rfl).trans ?_
  have e : ((cfg0.win 7).blk t).view.emb y = (ix2 ⟨512 * t.val + (y 0).val, by omega⟩ (y 1) : S6144x2048.Idx) := by
    funext a
    apply Fin.ext
    match a with
    | ⟨0, _⟩ => show win0_7.index t 0 * 512 + 1 * (y 0).val = 512 * t.val + (y 0).val; rw [h0]; omega
    | ⟨1, _⟩ => show win0_7.index t 1 * 2048 + 1 * (y 1).val = (y 1).val; rw [h1]; omega
  rw [e]
  rfl

/-- The second result array ends holding it. -/
theorem final7 (c : Dev nD) : (dats m 0 c).arrAt 7 cfg0.N = zhOut m c :=
  (dats m 0 c).arrAt_eq_of_cover 7 (zhOut m c) (flushed7 m c) fun i => by
    have hr : (i 0 : Nat) < 6144 := (i 0).isLt
    have hq : (i 1 : Nat) < 2048 := (i 1).isLt
    have hb : (i 0 : Nat) / 512 < 12 := by omega
    refine ⟨⟨(i 0 : Nat) / 512, lt_of_lt_of_eq hb (show 12 = cfg0.N from N_0.symm)⟩, flush0_7 _, ?_⟩
    generalize ht : (⟨(i 0 : Nat) / 512, lt_of_lt_of_eq hb (show 12 = cfg0.N from N_0.symm)⟩ : Fin cfg0.N) = t
    have hv : t.val = (i 0 : Nat) / 512 := by rw [← ht]
    obtain ⟨h0, h1⟩ := index7 t
    show i ∈ ((View.whole main_v10_1).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [h0, hv]; omega
    | ⟨1, _⟩ =>
      show win0_7.index t 1 * 2048 ≤ (i 1 : Nat) ∧ (i 1 : Nat) < win0_7.index t 1 * 2048 + 2048
      rw [h1]; omega

end Cert.InProj

end
-- ==== Proof.InProj.RefRow.lean ====
module

public import proofs.«01_k».proof.Proof.InProj.Model
public import proofs.«01_k».proof.Proof.Gen.Reference2Ideal.Read

/-! The projection's reference, row by row over the extended reals: each row is `Cert.Row.proj` of `Cert.Row.hidden`, its columns
in the order the results store them. -/

@[expose] public section

set_option maxRecDepth 16384

noncomputable section

namespace Cert.Reference2Ideal.InProj

open Idealize.ShloMosaic Idealize.ShloMosaic.TcCoe
open Cert.Reference2Ideal.Read

/-- The context tokens' modulation row. -/
theorem ctx_ada (x3 : S1024.Idx → EReal) (x4 : S1x1024x6144.Idx → EReal) (x5 : S1x6144.Idx → EReal) (j : Fin 6144) :
    val_main_v6 (F := Ideal) x3 x4 x5 (ix2 0 j) = Row.ada (fun k => x3 (ix1 k)) x4 x5 j := by
  unfold Row.ada Row.silu
  pointwise [val_main_v6, val_main_v5, val_main_v4, val_main_v3, val_main_v2, val_main_v1, val_main_v0, val_main_call0_v0, val_main_call0_v1, val_main_call0_cst, val_main_call0_v2, val_main_call0_v3, val_main_call0_cst_0, val_main_call0_v4, val_main_call0_v5]

/-- The context tokens' modulated rows. -/
theorem ctx_hidden (x0 : S16x256x1024.Idx → EReal) (x3 : S1024.Idx → EReal) (x4 : S1x1024x6144.Idx → EReal) (x5 : S1x6144.Idx → EReal) (x6 : S1x1024.Idx → EReal)
    (b : Fin 16) (t : Fin 256) (j : Fin 1024) :
    val_main_v33 (F := Ideal) x0 x3 x4 x5 x6 (ix3 b t j) = Row.hidden (fun j => x0 (ix3 b t j)) (fun k => x3 (ix1 k)) x4 x5 x6 j := by
  unfold Row.hidden Row.modulate Row.norm
  simp only [← ctx_ada]
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v9, val_main_v8, val_main_v7, val_main_cst, val_main_cst_0, val_main_cst_1, val_main_cst_2]

/-- The context tokens' projection. -/
theorem ctx_proj (x0 : S16x256x1024.Idx → EReal) (x3 : S1024.Idx → EReal) (x4 : S1x1024x6144.Idx → EReal) (x5 : S1x6144.Idx → EReal) (x6 : S1x1024.Idx → EReal)
    (x7 : S1x1024x3120.Idx → EReal) (b : Fin 16) (t : Fin 256) (n : Fin 3120) :
    val_main_v35 (F := Ideal) x0 x3 x4 x5 x6 x7 (ix3 b t n) = Row.proj (fun j => val_main_v33 (F := Ideal) x0 x3 x4 x5 x6 (ix3 b t j)) x7 n := by
  unfold Row.proj
  pointwise [val_main_v35, val_main_v34]

/-- The requests' modulation rows. -/
theorem lat_ada (x2 : S2x1024.Idx → EReal) (x4 : S1x1024x6144.Idx → EReal) (x5 : S1x6144.Idx → EReal) (b : Fin 2) (j : Fin 6144) :
    val_main_v43 (F := Ideal) x2 x4 x5 (ix2 b j) = Row.ada (fun k => x2 (ix2 b k)) x4 x5 j := by
  unfold Row.ada Row.silu
  pointwise [val_main_v43, val_main_v42, val_main_v41, val_main_v40, val_main_v39, val_main_v38, val_main_v37, val_main_call1_v0, val_main_call1_v1, val_main_call1_cst, val_main_call1_v2, val_main_call1_v3, val_main_call1_cst_0, val_main_call1_v4, val_main_call1_v5]

/-- The latent tokens' modulated rows. -/
theorem lat_hidden (x1 : S2x1024x1024.Idx → EReal) (x2 : S2x1024.Idx → EReal) (x4 : S1x1024x6144.Idx → EReal) (x5 : S1x6144.Idx → EReal) (x6 : S1x1024.Idx → EReal)
    (b : Fin 2) (t : Fin 1024) (j : Fin 1024) :
    val_main_v70 (F := Ideal) x1 x2 x4 x5 x6 (ix3 b t j) = Row.hidden (fun j => x1 (ix3 b t j)) (fun k => x2 (ix2 b k)) x4 x5 x6 j := by
  unfold Row.hidden Row.modulate Row.norm
  simp only [← lat_ada]
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v46, val_main_v45, val_main_v44, val_main_cst_3, val_main_cst_4, val_main_cst_5, val_main_cst_6]

/-- The latent tokens' projection. -/
theorem lat_proj (x1 : S2x1024x1024.Idx → EReal) (x2 : S2x1024.Idx → EReal) (x4 : S1x1024x6144.Idx → EReal) (x5 : S1x6144.Idx → EReal) (x6 : S1x1024.Idx → EReal)
    (x7 : S1x1024x3120.Idx → EReal) (b : Fin 2) (t : Fin 1024) (n : Fin 3120) :
    val_main_v72 (F := Ideal) x1 x2 x4 x5 x6 x7 (ix3 b t n) = Row.proj (fun j => val_main_v70 (F := Ideal) x1 x2 x4 x5 x6 (ix3 b t j)) x7 n := by
  unfold Row.proj
  pointwise [val_main_v72, val_main_v71]

section
variable (x0 : S16x256x1024.Idx → EReal) (x1 : S2x1024x1024.Idx → EReal) (x2 : S2x1024.Idx → EReal) (x3 : S1024.Idx → EReal)
  (x4 : S1x1024x6144.Idx → EReal) (x5 : S1x6144.Idx → EReal) (x6 : S1x1024.Idx → EReal) (x7 : S1x1024x3120.Idx → EReal)

/-- The projection of a context token, in the joined array. -/
theorem joined_ctx (r : Fin 4096) (n : Fin 3120) :
    val_main_v74 (F := Ideal) x0 x1 x2 x3 x4 x5 x6 x7 (ix2 ⟨r.val, by omega⟩ n)
      = Row.proj (Row.hidden (fun j => x0 (ix3 ⟨r.val / 256, by omega⟩ ⟨r.val % 256, by omega⟩ j)) (fun k => x3 (ix1 k)) x4 x5 x6) x7 n := by
  have e : val_main_v74 (F := Ideal) x0 x1 x2 x3 x4 x5 x6 x7 (ix2 ⟨r.val, by omega⟩ n) = val_main_v36 (F := Ideal) x0 x3 x4 x5 x6 x7 (ix2 r n) := by
    unfold val_main_v74
    generalize val_main_v36 (F := Ideal) x0 x3 x4 x5 x6 x7 = y
    generalize val_main_v73 (F := Ideal) x1 x2 x4 x5 x6 x7 = z
    pointwise []
  rw [e]
  unfold val_main_v36
  refine (shapeCast_apply (s := S16x256x3120) (t := S4096x3120) _ _ _ (ix3 ⟨r.val / 256, by omega⟩ ⟨r.val % 256, by omega⟩ n) ?_).trans ?_
  · rw [Shape.rowMajor_val_three, Shape.rowMajor_val_two]
    show (r.val / 256 * 256 + r.val % 256) * 3120 + n.val = r.val * 3120 + n.val
    omega
  · rw [ctx_proj]
    exact congrArg (fun h => Row.proj h x7 n) (funext fun j => ctx_hidden x0 x3 x4 x5 x6 _ _ j)

/-- The projection of a latent token, in the joined array. -/
theorem joined_lat (r : Fin 2048) (n : Fin 3120) :
    val_main_v74 (F := Ideal) x0 x1 x2 x3 x4 x5 x6 x7 (ix2 ⟨4096 + r.val, by omega⟩ n)
      = Row.proj (Row.hidden (fun j => x1 (ix3 ⟨r.val / 1024, by omega⟩ ⟨r.val % 1024, by omega⟩ j)) (fun k => x2 (ix2 ⟨r.val / 1024, by omega⟩ k)) x4 x5 x6) x7 n := by
  have e : val_main_v74 (F := Ideal) x0 x1 x2 x3 x4 x5 x6 x7 (ix2 ⟨4096 + r.val, by omega⟩ n) = val_main_v73 (F := Ideal) x1 x2 x4 x5 x6 x7 (ix2 r n) := by
    unfold val_main_v74
    generalize val_main_v36 (F := Ideal) x0 x3 x4 x5 x6 x7 = y
    generalize val_main_v73 (F := Ideal) x1 x2 x4 x5 x6 x7 = z
    pointwise []
  rw [e]
  unfold val_main_v73
  refine (shapeCast_apply (s := S2x1024x3120) (t := S2048x3120) _ _ _ (ix3 ⟨r.val / 1024, by omega⟩ ⟨r.val % 1024, by omega⟩ n) ?_).trans ?_
  · rw [Shape.rowMajor_val_three, Shape.rowMajor_val_two]
    show (r.val / 1024 * 1024 + r.val % 1024) * 3120 + n.val = r.val * 3120 + n.val
    omega
  · rw [lat_proj]
    exact congrArg (fun h => Row.proj h x7 n) (funext fun j => lat_hidden x1 x2 x4 x5 x6 _ _ j)

/-- A row read at two names of one column. -/
theorem same_col (y : S6144x3120.Idx → EReal) (r : Fin 6144) (a b : Fin 3120) (h : a.val = b.val) : y (ix2 r a) = y (ix2 r b) := by
  rw [Fin.ext h]

/-- The first result's row, by the joined array's. -/
theorem cols_f (r : Fin 6144) (j : Fin 1152) :
    val_main_v86 (F := Ideal) x0 x1 x2 x3 x4 x5 x6 x7 (ix2 r j)
      = Row.colF (fun n => val_main_v74 (F := Ideal) x0 x1 x2 x3 x4 x5 x6 x7 (ix2 r n)) j := by
  unfold val_main_v86 val_main_v75 val_main_v76 val_main_v79 val_main_v80 val_main_v81 val_main_v84 Row.colF
  generalize val_main_v74 (F := Ideal) x0 x1 x2 x3 x4 x5 x6 x7 = y
  pointwise [val_main_v85, val_main_cst_7]
  (repeat' split) <;> first
    | (exfalso; omega)
    | rfl
    | (refine same_col y r _ _ ?_; omega)
    | (refine same_col y r _ _ ?_; dsimp only; omega)

/-- The second result's row. -/
theorem cols_h (r : Fin 6144) (j : Fin 2048) :
    val_main_v88 (F := Ideal) x0 x1 x2 x3 x4 x5 x6 x7 (ix2 r j)
      = Row.colH (fun n => val_main_v74 (F := Ideal) x0 x1 x2 x3 x4 x5 x6 x7 (ix2 r n)) j := by
  unfold val_main_v88 val_main_v87 val_main_v77 val_main_v78 val_main_v82 val_main_v83 Row.colH
  generalize val_main_v74 (F := Ideal) x0 x1 x2 x3 x4 x5 x6 x7 = y
  pointwise []
  (repeat' split) <;> first
    | (exfalso; omega)
    | rfl
    | (refine same_col y r _ _ ?_; omega)
    | (refine same_col y r _ _ ?_; dsimp only; omega)

end

end Cert.Reference2Ideal.InProj

end
-- ==== Proof.InProj.Claim.lean ====
module

public import proofs.«01_k».proof.Defs
public import proofs.«01_k».proof.Proof.Gen.Reference2Ideal.Run
public import proofs.«01_k».proof.Proof.InProj.Final
public import proofs.«01_k».proof.Proof.InProj.RefRow
public import proofs.«01_k».proof.Proof.Gen.Kernel2
public import Idealize.ShloMosaic.Lib.Quiescent

/-! The conjuncts of the claim about the input projection: the three frames and the equality of the results. -/

@[expose] public section

set_option maxRecDepth 16384

noncomputable section

namespace Cert.Proof.InProj

open Idealize.ShloMosaic Idealize.ShloMosaic.TcCoe Idealize.SL.Sem

/-- Over any float values: the projection runs, keeps its arguments and leaves every counter at zero. -/
theorem kept {F : FTy → Type} [FloatOps F] (m : (ℓ : Loc Cert.Kernel2Ideal.nD Cert.Kernel2Ideal.τ Cert.Kernel2Ideal.sig) → Buf (Elt F) ℓ) (g : Dev Cert.Kernel2Ideal.nD → PrngReg) :
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)) ∧ r.2.sem = fun _ => 0) :=
  (θ_run Cert.Kernel2Ideal.defs _ _).mono (fun _ h => ⟨h.1, h.2.2⟩)
    (θ_run_and (Cert.InProj.unchanged_of m g (Cert.InProj.dats m) (Cert.InProj.A_eq m)
      ((θ_run Cert.Kernel2Ideal.defs _ _).mono (fun _ h => h.1) (Cert.InProj.run m g))) (Cert.InProj.run m g))

/-- The idealized kernel's frame. -/
theorem frame_PI : Cert.quiescent_Kernel2Ideal := fun m g _ => kept m g

attribute [local instance] Cert.Kernel2.Gen.facts

/-- The kernel's body table is the idealized kernel's: the two programs have the same text. -/
theorem bodies_eq : Cert.Kernel2.defs₀ (F := Bits) = Cert.Kernel2Ideal.defs₀ (F := Bits) :=
  congrArg Defs.onTc (funext fun l => funext fun a => by
    match l, a with
    | 0, (t, s) => rfl
    | ⟨_ + 1, h⟩, _ => exact absurd h (Nat.not_lt.2 (Nat.le_add_left _ _)))

/-- So is the whole table. -/
theorem table_eq : Cert.Kernel2.defs (F := Bits) = Cert.Kernel2Ideal.defs (F := Bits) :=
  congrArg (Pipeline.defs Cert.Kernel2.pcfgs) bodies_eq

/-- The kernel's frame. -/
theorem frame_P : Cert.quiescent_Kernel2 (hKernel2 := Cert.Kernel2.Gen.facts) := fun m g _ => by
  rw [table_eq]; exact kept (F := Bits) m g

/-- The reference runs and keeps its arguments; it declares no semaphore. -/
theorem frame_RI : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

open Cert.Reference2Ideal.Read Cert.Reference2Ideal.InProj in
/-- The reference's rows before the columns are put in order. -/
theorem joined (m : (ℓ : Loc Cert.Kernel2Ideal.nD Cert.Kernel2Ideal.τ Cert.Kernel2Ideal.sig) → Buf (Elt Ideal) ℓ) (c : Dev Cert.Kernel2Ideal.nD) (r : Fin 6144) :
    (fun n => val_main_v74 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4))
      (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) (m ((c : Thread Cert.Kernel2Ideal.nD Cert.Kernel2Ideal.τ).loc Cert.Kernel2Ideal.main_arg7)) (ix2 r n))
      = Row.proj (Cert.InProj.hid m c r) (m ((c : Thread Cert.Kernel2Ideal.nD Cert.Kernel2Ideal.τ).loc Cert.Kernel2Ideal.main_arg7)) := by
  have hr := r.isLt
  funext n
  unfold Cert.InProj.hid
  by_cases h : r.val < 4096
  · rw [dif_pos h]
    exact joined_ctx _ _ _ _ _ _ _ _ ⟨r.val, h⟩ n
  · rw [dif_neg h]
    have e : r = ⟨4096 + (r.val - 4096), by omega⟩ := Fin.ext (by show r.val = 4096 + (r.val - 4096); omega)
    refine Eq.trans ?_ (joined_lat (m ((c : Thread Cert.Kernel2Ideal.nD Cert.Kernel2Ideal.τ).loc Cert.Kernel2Ideal.main_arg0)) _ _ (m ((c : Thread Cert.Kernel2Ideal.nD Cert.Kernel2Ideal.τ).loc Cert.Kernel2Ideal.main_arg3)) _ _ _ _ ⟨r.val - 4096, by omega⟩ n)
    exact congrArg (fun s : Fin 6144 => val_main_v74 (F := Ideal) _ _ _ _ _ _ _ _ (ix2 s n)) e

/-- The two programs' results agree. -/
theorem algebraic : Cert.algebraic_Kernel2Ideal_Reference2Ideal := by
  intro m g m' g' _ hagree
  refine ⟨fun c => Cert.InProj.zfOut m c, fun c => Cert.InProj.zhOut m c,
    (θ_run Cert.Kernel2Ideal.defs _ _).mono (fun _ h c => ⟨((h.2.1 c).1 6).trans (Cert.InProj.final6 m c),
      ((h.2.1 c).1 7).trans (Cert.InProj.final7 m c), h.1 c⟩) (θ_run_and (Cert.InProj.unchanged_of m g (Cert.InProj.dats m) (Cert.InProj.A_eq m)
      ((θ_run Cert.Kernel2Ideal.defs _ _).mono (fun _ h => h.1) (Cert.InProj.run m g))) (Cert.InProj.run m g)),
    (θ_run Cert.Reference2Ideal.defs _ _).mono (fun _ h c => ⟨(h c).1.trans ?_, (h c).2.1.trans ?_, (h c).2.2⟩)
      (Cert.Reference2Ideal.Value.run m' g')⟩
  · rw [Cert.Reference2Ideal.Read.val_main_v86_eq]
    obtain ⟨a0, a1, a2, a3, a4, a5, a6, a7⟩ := hagree c
    rw [a0, a1, a2, a3, a4, a5, a6, a7]
    funext i
    rw [eq_ix2 i]
    exact (Cert.Reference2Ideal.InProj.cols_f _ _ _ _ _ _ _ _ (i 0) (i 1)).trans (congrArg (fun f => Row.colF f (i 1)) (joined m c (i 0)))
  · rw [Cert.Reference2Ideal.Read.val_main_v88_eq]
    obtain ⟨a0, a1, a2, a3, a4, a5, a6, a7⟩ := hagree c
    rw [a0, a1, a2, a3, a4, a5, a6, a7]
    funext i
    rw [eq_ix2 i]
    exact (Cert.Reference2Ideal.InProj.cols_h _ _ _ _ _ _ _ _ (i 0) (i 1)).trans (congrArg (fun f => Row.colH f (i 1)) (joined m c (i 0)))

end Cert.Proof.InProj

end
-- ==== Proof.lean ====
/- The proof of the claim, for two calls of the layer: the frames of each call's three programs and the equality of its results.
   The second half of the layer is under Proof/OutFf, the input projection under Proof/InProj. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.OutFf.Claim
public import proofs.«01_k».proof.Proof.InProj.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    OutFf.frame_P, OutFf.frame_PI, OutFf.frame_RI, InProj.frame_P, InProj.frame_PI, InProj.frame_RI,
    trivial, OutFf.algebraic, trivial, InProj.algebraic⟩

end Cert.Proof

end
